-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
-- ==== Pre_finite_queries_and_keys.lean ====
abbrev S4x64x128x8x32 : Shape := ⟨5, ![4, 64, 128, 8, 32]⟩
abbrev S4x1x128x128 : Shape := ⟨4, ![4, 1, 128, 128]⟩
abbrev S_ : Shape := ⟨0, ![]⟩

class Facts : Prop where
  bcast_S_S4x64x128x8x32 : S_.BroadcastsInDim S4x64x128x8x32 (![] : Fin 0 → Fin S4x64x128x8x32.rank)

variable [Facts]

def fn {F : FTy → Type} [FloatOps F] (main_arg0 : FVec F S4x64x128x8x32 .f32) (main_arg1 : FVec F S4x64x128x8x32 .f32) (main_arg2 : FVec F S4x64x128x8x32 .f32) (main_arg3 : IVec S4x1x128x128 1) : IVec S4x64x128x8x32 1 :=
  let main_v0 : FVec F S4x64x128x8x32 .f32 := Host.absf main_arg0
  let main_cst : FVec F S_ .f32 := constant S_ .f32 0x7F800000#32
  let main_v1 : FVec F S4x64x128x8x32 .f32 := broadcastInDim S4x64x128x8x32 ![] bcast_S_S4x64x128x8x32 main_cst
  let main_v2 : IVec S4x64x128x8x32 1 := cmpf .olt main_v0 main_v1
  let main_v3 : FVec F S4x64x128x8x32 .f32 := Host.absf main_arg1
  let main_cst_0 : FVec F S_ .f32 := constant S_ .f32 0x7F800000#32
  let main_v4 : FVec F S4x64x128x8x32 .f32 := broadcastInDim S4x64x128x8x32 ![] bcast_S_S4x64x128x8x32 main_cst_0
  let main_v5 : IVec S4x64x128x8x32 1 := cmpf .olt main_v3 main_v4
  let main_v6 : IVec S4x64x128x8x32 1 := andi main_v2 main_v5
  main_v6
-- ==== Kernel.lean ====
abbrev S4x64x128x8x32 : Shape := ⟨5, ![4, 64, 128, 8, 32]⟩
abbrev S4x1x128x128 : Shape := ⟨4, ![4, 1, 128, 128]⟩
abbrev S128x144 : Shape := ⟨2, ![128, 144]⟩
abbrev S144x128 : Shape := ⟨2, ![144, 128]⟩
abbrev S256x128 : Shape := ⟨2, ![256, 128]⟩
abbrev S4x64x128x256 : Shape := ⟨4, ![4, 64, 128, 256]⟩
abbrev S4x64x1024x32 : Shape := ⟨4, ![4, 64, 1024, 32]⟩
abbrev S1x16x128x256 : Shape := ⟨4, ![1, 16, 128, 256]⟩
abbrev S1x16x1024x32 : Shape := ⟨4, ![1, 16, 1024, 32]⟩
abbrev S128x256 : Shape := ⟨2, ![128, 256]⟩
abbrev S144x256 : Shape := ⟨2, ![144, 256]⟩
abbrev S1x1x128x256 : Shape := ⟨4, ![1, 1, 128, 256]⟩
abbrev S72x256 : Shape := ⟨2, ![72, 256]⟩
abbrev S72x4096 : Shape := ⟨2, ![72, 4096]⟩
abbrev S128x4096 : Shape := ⟨2, ![128, 4096]⟩
abbrev S144x4096 : Shape := ⟨2, ![144, 4096]⟩
abbrev S144x2048 : Shape := ⟨2, ![144, 2048]⟩
abbrev S2048x128 : Shape := ⟨2, ![2048, 128]⟩
abbrev S2048 : Shape := ⟨1, ![2048]⟩
abbrev S2048x1 : Shape := ⟨2, ![2048, 1]⟩
abbrev S8x1 : Shape := ⟨2, ![8, 1]⟩
abbrev S8x32 : Shape := ⟨2, ![8, 32]⟩
abbrev S1x1x1024x32 : Shape := ⟨4, ![1, 1, 1024, 32]⟩
abbrev S1024x32 : Shape := ⟨2, ![1024, 32]⟩
abbrev S128x8x32 : Shape := ⟨3, ![128, 8, 32]⟩
abbrev S1x8x32 : Shape := ⟨3, ![1, 8, 32]⟩

abbrev nBuf : Space → Nat
  | .hbm => 12
  | .vmem => 13
  | .smem => 0
  | _ => 0

abbrev bufTy : (tb : Table) → Fin (tcTables nBuf tb) → BufTy
  | .hbm, ⟨0, _⟩ => ⟨S4x64x128x8x32, .f32⟩
  | .hbm, ⟨1, _⟩ => ⟨S4x64x128x8x32, .f32⟩
  | .hbm, ⟨2, _⟩ => ⟨S4x64x128x8x32, .f32⟩
  | .hbm, ⟨3, _⟩ => ⟨S4x1x128x128, .i1⟩
  | .hbm, ⟨4, _⟩ => ⟨S128x144, .f32⟩
  | .hbm, ⟨5, _⟩ => ⟨S144x128, .f32⟩
  | .hbm, ⟨6, _⟩ => ⟨S256x128, .f32⟩
  | .hbm, ⟨7, _⟩ => ⟨S4x64x128x256, .f32⟩
  | .hbm, ⟨8, _⟩ => ⟨S4x64x128x256, .f32⟩
  | .hbm, ⟨9, _⟩ => ⟨S4x64x1024x32, .f32⟩
  | .hbm, ⟨10, _⟩ => ⟨S4x64x1024x32, .f32⟩
  | .hbm, ⟨11, _⟩ => ⟨S4x64x128x8x32, .f32⟩
  | .local _ .vmem, ⟨0, _⟩ => ⟨S1x16x128x256, .f32⟩
  | .local _ .vmem, ⟨1, _⟩ => ⟨S1x16x128x256, .f32⟩
  | .local _ .vmem, ⟨2, _⟩ => ⟨S1x16x128x256, .f32⟩
  | .local _ .vmem, ⟨3, _⟩ => ⟨S1x16x128x256, .f32⟩
  | .local _ .vmem, ⟨4, _⟩ => ⟨S1x16x1024x32, .f32⟩
  | .local _ .vmem, ⟨5, _⟩ => ⟨S1x16x1024x32, .f32⟩
  | .local _ .vmem, ⟨6, _⟩ => ⟨S128x144, .f32⟩
  | .local _ .vmem, ⟨7, _⟩ => ⟨S144x128, .f32⟩
  | .local _ .vmem, ⟨8, _⟩ => ⟨S256x128, .f32⟩
  | .local _ .vmem, ⟨9, _⟩ => ⟨S1x16x1024x32, .f32⟩
  | .local _ .vmem, ⟨10, _⟩ => ⟨S1x16x1024x32, .f32⟩
  | .local _ .vmem, ⟨11, _⟩ => ⟨S128x256, .f32⟩
  | .local _ .vmem, ⟨12, _⟩ => ⟨S144x256, .f32⟩
  | _, _ => ⟨S4x64x128x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 2, 4], ![false, false, false]⟩

def k0_cond5 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 32 := Scalar.select v0 arg2 c3_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  let c0_i32_2 : BitVec 32 := 0#32
  ![arg0.toNat, v1.toNat, c0_i32_0.toNat, c0_i32_1.toNat]

abbrev stage0_0 : Fin 2 → Memref sig .tc .vmem S1x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S128x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x16x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S4x64x128x8x32 : Shape := ⟨5, ![4, 64, 128, 8, 32]⟩
abbrev S4x1x128x128 : Shape := ⟨4, ![4, 1, 128, 128]⟩
abbrev S128x65 : Shape := ⟨2, ![128, 65]⟩
abbrev S65 : Shape := ⟨1, ![65]⟩
abbrev S_ : Shape := ⟨0, ![]⟩
abbrev S4x128x8x32 : Shape := ⟨4, ![4, 128, 8, 32]⟩
abbrev S4x1x128x8x32 : Shape := ⟨5, ![4, 1, 128, 8, 32]⟩
abbrev S4x64x8x32x128 : Shape := ⟨5, ![4, 64, 8, 32, 128]⟩
abbrev S4x64x8x32x65 : Shape := ⟨5, ![4, 64, 8, 32, 65]⟩
abbrev S1x1x1x1x65 : Shape := ⟨5, ![1, 1, 1, 1, 65]⟩
abbrev S65x128 : Shape := ⟨2, ![65, 128]⟩
abbrev S128 : Shape := ⟨1, ![128]⟩
abbrev S1x1x1x1x128 : Shape := ⟨5, ![1, 1, 1, 1, 128]⟩
abbrev S4x64x8x128 : Shape := ⟨4, ![4, 64, 8, 128]⟩
abbrev S4x64x8x2 : Shape := ⟨4, ![4, 64, 8, 2]⟩
abbrev S4x64x8x32x256 : Shape := ⟨5, ![4, 64, 8, 32, 256]⟩
abbrev S4x64x8x1 : Shape := ⟨4, ![4, 64, 8, 1]⟩
abbrev S4x64x8 : Shape := ⟨3, ![4, 64, 8]⟩
abbrev S4x64x8x1x1 : Shape := ⟨5, ![4, 64, 8, 1, 1]⟩
abbrev S4x64x8x32x128x1 : Shape := ⟨6, ![4, 64, 8, 32, 128, 1]⟩
abbrev S1 : Shape := ⟨1, ![1]⟩
abbrev S1x1x1x1x1x1 : Shape := ⟨6, ![1, 1, 1, 1, 1, 1]⟩
abbrev S4x8x64x2 : Shape := ⟨4, ![4, 8, 64, 2]⟩
abbrev S32x64x2 : Shape := ⟨3, ![32, 64, 2]⟩
abbrev S32x64x1 : Shape := ⟨3, ![32, 64, 1]⟩
abbrev S32x64 : Shape := ⟨2, ![32, 64]⟩
abbrev S4x8x64x32x128 : Shape := ⟨5, ![4, 8, 64, 32, 128]⟩
abbrev S32x64x32x128 : Shape := ⟨4, ![32, 64, 32, 128]⟩
abbrev S32x64x1x1 : Shape := ⟨4, ![32, 64, 1, 1]⟩
abbrev S32x64x32x128x1 : Shape := ⟨5, ![32, 64, 32, 128, 1]⟩
abbrev S1x1x1x1x1 : Shape := ⟨5, ![1, 1, 1, 1, 1]⟩
abbrev S32x64x4096 : Shape := ⟨3, ![32, 64, 4096]⟩
abbrev S32x4096x64 : Shape := ⟨3, ![32, 4096, 64]⟩
abbrev S1x4x64x8x32x128 : Shape := ⟨6, ![1, 4, 64, 8, 32, 128]⟩
abbrev S2x4x64x8x32x128 : Shape := ⟨6, ![2, 4, 64, 8, 32, 128]⟩

abbrev nBuf : Space → Nat
  | .hbm => 339
  | .vmem => 0
  | .smem => 0
  | _ => 0

abbrev hbmTy0_0 (i : Nat) : BufTy := match i % 128 with
  | 0 => ⟨S4x64x128x8x32, .f32⟩
  | 1 => ⟨S4x64x128x8x32, .f32⟩
  | 2 => ⟨S4x64x128x8x32, .f32⟩
  | 3 => ⟨S4x1x128x128, .i1⟩
  | 4 => ⟨S128x65, .f32⟩
  | 5 => ⟨S128x65, .f32⟩
  | 6 => ⟨S65, .f32⟩
  | 7 => ⟨S_, .f32⟩
  | 8 => ⟨S4x128x8x32, .f32⟩
  | 9 => ⟨S4x1x128x8x32, .f32⟩
  | 10 => ⟨S_, .f32⟩
  | 11 => ⟨S4x1x128x8x32, .f32⟩
  | 12 => ⟨S4x1x128x8x32, .f32⟩
  | 13 => ⟨S4x64x128x8x32, .f32⟩
  | 14 => ⟨S4x64x8x32x128, .f32⟩
  | 15 => ⟨S4x64x8x32x128, .f32⟩
  | 16 => ⟨S4x64x8x32x65, .f32⟩
  | 17 => ⟨S4x64x8x32x65, .f32⟩
  | 18 => ⟨S4x64x8x32x65, .f32⟩
  | 19 => ⟨S4x64x8x32x65, .f32⟩
  | 20 => ⟨S4x64x8x32x65, .f32⟩
  | 21 => ⟨S4x64x8x32x65, .f32⟩
  | 22 => ⟨S4x64x8x32x65, .f32⟩
  | 23 => ⟨S4x64x8x32x65, .f32⟩
  | 24 => ⟨S4x64x8x32x65, .f32⟩
  | 25 => ⟨S4x64x8x32x65, .f32⟩
  | 26 => ⟨S4x64x8x32x65, .f32⟩
  | 27 => ⟨S4x64x8x32x65, .f32⟩
  | 28 => ⟨S1x1x1x1x65, .f32⟩
  | 29 => ⟨S4x64x8x32x65, .f32⟩
  | 30 => ⟨S4x64x8x32x65, .f32⟩
  | 31 => ⟨S65x128, .f32⟩
  | 32 => ⟨S4x64x8x32x128, .f32⟩
  | 33 => ⟨S1x1x1x1x65, .f32⟩
  | 34 => ⟨S4x64x8x32x65, .f32⟩
  | 35 => ⟨S4x64x8x32x65, .f32⟩
  | 36 => ⟨S65x128, .f32⟩
  | 37 => ⟨S4x64x8x32x128, .f32⟩
  | 38 => ⟨S4x64x8x32x128, .f32⟩
  | 39 => ⟨S_, .f32⟩
  | 40 => ⟨S4x64x8x32x128, .f32⟩
  | 41 => ⟨S4x64x8x32x128, .f32⟩
  | 42 => ⟨S4x64x8x32x128, .f32⟩
  | 43 => ⟨S128, .i32⟩
  | 44 => ⟨S1x1x1x1x128, .i32⟩
  | 45 => ⟨S4x64x8x32x128, .i32⟩
  | 46 => ⟨S_, .f32⟩
  | 47 => ⟨S4x64x8x128, .f32⟩
  | 48 => ⟨S_, .f32⟩
  | 49 => ⟨S4x64x8x128, .f32⟩
  | 50 => ⟨S4x64x8x128, .f32⟩
  | 51 => ⟨S4x64x8x2, .f32⟩
  | 52 => ⟨S4x64x8x2, .i32⟩
  | 53 => ⟨S_, .i32⟩
  | 54 => ⟨S4x64x8x2, .i32⟩
  | 55 => ⟨S4x64x8x2, .i32⟩
  | 56 => ⟨S4x64x8x32x256, .f32⟩
  | 57 => ⟨S4x64x8x1, .i32⟩
  | 58 => ⟨S4x64x8, .i32⟩
  | 59 => ⟨S4x64x8x1x1, .i32⟩
  | 60 => ⟨S4x64x8x32x128, .i32⟩
  | 61 => ⟨S4x64x8x32x128, .i32⟩
  | 62 => ⟨S_, .i32⟩
  | 63 => ⟨S4x64x8x32x128, .i32⟩
  | 64 => ⟨S4x64x8x32x128, .i1⟩
  | 65 => ⟨S_, .i32⟩
  | 66 => ⟨S4x64x8x32x128, .i32⟩
  | 67 => ⟨S4x64x8x32x128, .i32⟩
  | 68 => ⟨S4x64x8x32x128, .i32⟩
  | 69 => ⟨S4x64x8x32x128x1, .i32⟩
  | 70 => ⟨S1, .i32⟩
  | 71 => ⟨S_, .i32⟩
  | 72 => ⟨S4x64x8x32x128x1, .i32⟩
  | 73 => ⟨S4x64x8x32x128x1, .i1⟩
  | 74 => ⟨S1x1x1x1x1x1, .i32⟩
  | 75 => ⟨S4x64x8x32x128x1, .i32⟩
  | 76 => ⟨S4x64x8x32x128x1, .i1⟩
  | 77 => ⟨S4x64x8x32x128x1, .i1⟩
  | 78 => ⟨S_, .i1⟩
  | 79 => ⟨S4x64x8x32x128, .i1⟩
  | 80 => ⟨S4x64x8x32x128, .f32⟩
  | 81 => ⟨S_, .f32⟩
  | 82 => ⟨S4x64x8x32x128, .f32⟩
  | 83 => ⟨S4x64x8x32x128, .f32⟩
  | 84 => ⟨S4x64x8x1, .i32⟩
  | 85 => ⟨S4x64x8, .i32⟩
  | 86 => ⟨S4x64x8x1x1, .i32⟩
  | 87 => ⟨S4x64x8x32x128, .i32⟩
  | 88 => ⟨S4x64x8x32x128, .i32⟩
  | 89 => ⟨S_, .i32⟩
  | 90 => ⟨S4x64x8x32x128, .i32⟩
  | 91 => ⟨S4x64x8x32x128, .i1⟩
  | 92 => ⟨S_, .i32⟩
  | 93 => ⟨S4x64x8x32x128, .i32⟩
  | 94 => ⟨S4x64x8x32x128, .i32⟩
  | 95 => ⟨S4x64x8x32x128, .i32⟩
  | 96 => ⟨S4x64x8x32x128x1, .i32⟩
  | 97 => ⟨S1, .i32⟩
  | 98 => ⟨S_, .i32⟩
  | 99 => ⟨S4x64x8x32x128x1, .i32⟩
  | 100 => ⟨S4x64x8x32x128x1, .i1⟩
  | 101 => ⟨S1x1x1x1x1x1, .i32⟩
  | 102 => ⟨S4x64x8x32x128x1, .i32⟩
  | 103 => ⟨S4x64x8x32x128x1, .i1⟩
  | 104 => ⟨S4x64x8x32x128x1, .i1⟩
  | 105 => ⟨S_, .i1⟩
  | 106 => ⟨S4x64x8x32x128, .i1⟩
  | 107 => ⟨S4x64x8x32x128, .f32⟩
  | 108 => ⟨S_, .f32⟩
  | 109 => ⟨S4x64x8x32x128, .f32⟩
  | 110 => ⟨S4x64x8x32x128, .f32⟩
  | 111 => ⟨S4x8x64x2, .i32⟩
  | 112 => ⟨S32x64x2, .i32⟩
  | 113 => ⟨S4x8x64x2, .f32⟩
  | 114 => ⟨S32x64x2, .f32⟩
  | 115 => ⟨S32x64x1, .i32⟩
  | 116 => ⟨S32x64, .i32⟩
  | 117 => ⟨S32x64, .i32⟩
  | 118 => ⟨S32x64, .i32⟩
  | 119 => ⟨S32x64, .i32⟩
  | 120 => ⟨S4x8x64x32x128, .f32⟩
  | 121 => ⟨S32x64x32x128, .f32⟩
  | 122 => ⟨S32x64x1, .f32⟩
  | 123 => ⟨S32x64, .f32⟩
  | 124 => ⟨S32x64, .f32⟩
  | 125 => ⟨S32x64, .f32⟩
  | 126 => ⟨S_, .f32⟩
  | 127 => ⟨S32x64, .f32⟩
  | _ => ⟨S4x64x128x8x32, .f32⟩

abbrev hbmTy0_1 (i : Nat) : BufTy := match i % 128 with
  | 0 => ⟨S32x64, .f32⟩
  | 1 => ⟨S_, .f32⟩
  | 2 => ⟨S32x64, .f32⟩
  | 3 => ⟨S32x64, .f32⟩
  | 4 => ⟨S32x64x1x1, .f32⟩
  | 5 => ⟨S32x64x1x1, .i32⟩
  | 6 => ⟨S32x64x32x128, .i32⟩
  | 7 => ⟨S32x64x32x128, .f32⟩
  | 8 => ⟨S32x64x32x128, .f32⟩
  | 9 => ⟨S_, .i32⟩
  | 10 => ⟨S32x64x32x128, .i32⟩
  | 11 => ⟨S32x64x32x128, .i1⟩
  | 12 => ⟨S_, .i32⟩
  | 13 => ⟨S32x64x32x128, .i32⟩
  | 14 => ⟨S32x64x32x128, .i32⟩
  | 15 => ⟨S32x64x32x128, .i32⟩
  | 16 => ⟨S32x64x32x128x1, .i32⟩
  | 17 => ⟨S1, .i32⟩
  | 18 => ⟨S_, .i32⟩
  | 19 => ⟨S32x64x32x128x1, .i32⟩
  | 20 => ⟨S32x64x32x128x1, .i1⟩
  | 21 => ⟨S1x1x1x1x1, .i32⟩
  | 22 => ⟨S32x64x32x128x1, .i32⟩
  | 23 => ⟨S32x64x32x128x1, .i1⟩
  | 24 => ⟨S32x64x32x128x1, .i1⟩
  | 25 => ⟨S_, .i1⟩
  | 26 => ⟨S32x64x32x128, .i1⟩
  | 27 => ⟨S32x64x32x128, .f32⟩
  | 28 => ⟨S_, .f32⟩
  | 29 => ⟨S32x64x32x128, .f32⟩
  | 30 => ⟨S32x64x32x128, .f32⟩
  | 31 => ⟨S32x64x4096, .f32⟩
  | 32 => ⟨S32x4096x64, .f32⟩
  | 33 => ⟨S32x64x4096, .f32⟩
  | 34 => ⟨S32x64x32x128, .f32⟩
  | 35 => ⟨S32x64, .i32⟩
  | 36 => ⟨S32x64, .i32⟩
  | 37 => ⟨S32x64, .i32⟩
  | 38 => ⟨S32x64x1x1, .i32⟩
  | 39 => ⟨S32x64x32x128, .i32⟩
  | 40 => ⟨S_, .i32⟩
  | 41 => ⟨S32x64x32x128, .i32⟩
  | 42 => ⟨S32x64x32x128, .i1⟩
  | 43 => ⟨S_, .i32⟩
  | 44 => ⟨S32x64x32x128, .i32⟩
  | 45 => ⟨S32x64x32x128, .i32⟩
  | 46 => ⟨S32x64x32x128, .i32⟩
  | 47 => ⟨S32x64x32x128x1, .i32⟩
  | 48 => ⟨S1, .i32⟩
  | 49 => ⟨S_, .i32⟩
  | 50 => ⟨S32x64x32x128x1, .i32⟩
  | 51 => ⟨S32x64x32x128x1, .i1⟩
  | 52 => ⟨S1x1x1x1x1, .i32⟩
  | 53 => ⟨S32x64x32x128x1, .i32⟩
  | 54 => ⟨S32x64x32x128x1, .i1⟩
  | 55 => ⟨S32x64x32x128x1, .i1⟩
  | 56 => ⟨S_, .i1⟩
  | 57 => ⟨S32x64x32x128, .i1⟩
  | 58 => ⟨S32x64x32x128, .f32⟩
  | 59 => ⟨S_, .f32⟩
  | 60 => ⟨S32x64x32x128, .f32⟩
  | 61 => ⟨S32x64x32x128, .f32⟩
  | 62 => ⟨S4x8x64x32x128, .f32⟩
  | 63 => ⟨S4x64x8x32x128, .f32⟩
  | 64 => ⟨S32x64x1, .i32⟩
  | 65 => ⟨S32x64, .i32⟩
  | 66 => ⟨S32x64, .i32⟩
  | 67 => ⟨S32x64, .i32⟩
  | 68 => ⟨S32x64, .i32⟩
  | 69 => ⟨S4x8x64x32x128, .f32⟩
  | 70 => ⟨S32x64x32x128, .f32⟩
  | 71 => ⟨S32x64x1, .f32⟩
  | 72 => ⟨S32x64, .f32⟩
  | 73 => ⟨S32x64, .f32⟩
  | 74 => ⟨S32x64, .f32⟩
  | 75 => ⟨S_, .f32⟩
  | 76 => ⟨S32x64, .f32⟩
  | 77 => ⟨S32x64, .f32⟩
  | 78 => ⟨S_, .f32⟩
  | 79 => ⟨S32x64, .f32⟩
  | 80 => ⟨S32x64, .f32⟩
  | 81 => ⟨S32x64x1x1, .f32⟩
  | 82 => ⟨S32x64x1x1, .i32⟩
  | 83 => ⟨S32x64x32x128, .i32⟩
  | 84 => ⟨S32x64x32x128, .f32⟩
  | 85 => ⟨S32x64x32x128, .f32⟩
  | 86 => ⟨S_, .i32⟩
  | 87 => ⟨S32x64x32x128, .i32⟩
  | 88 => ⟨S32x64x32x128, .i1⟩
  | 89 => ⟨S_, .i32⟩
  | 90 => ⟨S32x64x32x128, .i32⟩
  | 91 => ⟨S32x64x32x128, .i32⟩
  | 92 => ⟨S32x64x32x128, .i32⟩
  | 93 => ⟨S32x64x32x128x1, .i32⟩
  | 94 => ⟨S1, .i32⟩
  | 95 => ⟨S_, .i32⟩
  | 96 => ⟨S32x64x32x128x1, .i32⟩
  | 97 => ⟨S32x64x32x128x1, .i1⟩
  | 98 => ⟨S1x1x1x1x1, .i32⟩
  | 99 => ⟨S32x64x32x128x1, .i32⟩
  | 100 => ⟨S32x64x32x128x1, .i1⟩
  | 101 => ⟨S32x64x32x128x1, .i1⟩
  | 102 => ⟨S_, .i1⟩
  | 103 => ⟨S32x64x32x128, .i1⟩
  | 104 => ⟨S32x64x32x128, .f32⟩
  | 105 => ⟨S_, .f32⟩
  | 106 => ⟨S32x64x32x128, .f32⟩
  | 107 => ⟨S32x64x32x128, .f32⟩
  | 108 => ⟨S32x64x4096, .f32⟩
  | 109 => ⟨S32x4096x64, .f32⟩
  | 110 => ⟨S32x64x4096, .f32⟩
  | 111 => ⟨S32x64x32x128, .f32⟩
  | 112 => ⟨S32x64, .i32⟩
  | 113 => ⟨S32x64, .i32⟩
  | 114 => ⟨S32x64, .i32⟩
  | 115 => ⟨S32x64x1x1, .i32⟩
  | 116 => ⟨S32x64x32x128, .i32⟩
  | 117 => ⟨S_, .i32⟩
  | 118 => ⟨S32x64x32x128, .i32⟩
  | 119 => ⟨S32x64x32x128, .i1⟩
  | 120 => ⟨S_, .i32⟩
  | 121 => ⟨S32x64x32x128, .i32⟩
  | 122 => ⟨S32x64x32x128, .i32⟩
  | 123 => ⟨S32x64x32x128, .i32⟩
  | 124 => ⟨S32x64x32x128x1, .i32⟩
  | 125 => ⟨S1, .i32⟩
  | 126 => ⟨S_, .i32⟩
  | 127 => ⟨S32x64x32x128x1, .i32⟩
  | _ => ⟨S4x64x128x8x32, .f32⟩

abbrev hbmTy0_2 (i : Nat) : BufTy := match i % 128 with
  | 0 => ⟨S32x64x32x128x1, .i1⟩
  | 1 => ⟨S1x1x1x1x1, .i32⟩
  | 2 => ⟨S32x64x32x128x1, .i32⟩
  | 3 => ⟨S32x64x32x128x1, .i1⟩
  | 4 => ⟨S32x64x32x128x1, .i1⟩
  | 5 => ⟨S_, .i1⟩
  | 6 => ⟨S32x64x32x128, .i1⟩
  | 7 => ⟨S32x64x32x128, .f32⟩
  | 8 => ⟨S_, .f32⟩
  | 9 => ⟨S32x64x32x128, .f32⟩
  | 10 => ⟨S32x64x32x128, .f32⟩
  | 11 => ⟨S4x8x64x32x128, .f32⟩
  | 12 => ⟨S4x64x8x32x128, .f32⟩
  | 13 => ⟨S4x8x64x2, .i32⟩
  | 14 => ⟨S4x64x8x2, .i32⟩
  | 15 => ⟨S_, .i32⟩
  | 16 => ⟨S4x64x8x2, .i32⟩
  | 17 => ⟨S4x64x8x2, .i32⟩
  | 18 => ⟨S4x64x8x32x256, .f32⟩
  | 19 => ⟨S4x64x8x1, .i32⟩
  | 20 => ⟨S4x64x8, .i32⟩
  | 21 => ⟨S4x64x8x1x1, .i32⟩
  | 22 => ⟨S4x64x8x32x128, .i32⟩
  | 23 => ⟨S4x64x8x32x128, .i32⟩
  | 24 => ⟨S_, .i32⟩
  | 25 => ⟨S4x64x8x32x128, .i32⟩
  | 26 => ⟨S4x64x8x32x128, .i1⟩
  | 27 => ⟨S_, .i32⟩
  | 28 => ⟨S4x64x8x32x128, .i32⟩
  | 29 => ⟨S4x64x8x32x128, .i32⟩
  | 30 => ⟨S4x64x8x32x128, .i32⟩
  | 31 => ⟨S4x64x8x32x128x1, .i32⟩
  | 32 => ⟨S1, .i32⟩
  | 33 => ⟨S_, .i32⟩
  | 34 => ⟨S4x64x8x32x128x1, .i32⟩
  | 35 => ⟨S4x64x8x32x128x1, .i1⟩
  | 36 => ⟨S1x1x1x1x1x1, .i32⟩
  | 37 => ⟨S4x64x8x32x128x1, .i32⟩
  | 38 => ⟨S4x64x8x32x128x1, .i1⟩
  | 39 => ⟨S4x64x8x32x128x1, .i1⟩
  | 40 => ⟨S_, .i1⟩
  | 41 => ⟨S4x64x8x32x128, .i1⟩
  | 42 => ⟨S4x64x8x32x128, .f32⟩
  | 43 => ⟨S_, .f32⟩
  | 44 => ⟨S4x64x8x32x128, .f32⟩
  | 45 => ⟨S4x64x8x32x128, .f32⟩
  | 46 => ⟨S4x64x8x32x256, .f32⟩
  | 47 => ⟨S4x64x8x1, .i32⟩
  | 48 => ⟨S4x64x8, .i32⟩
  | 49 => ⟨S4x64x8x1x1, .i32⟩
  | 50 => ⟨S4x64x8x32x128, .i32⟩
  | 51 => ⟨S4x64x8x32x128, .i32⟩
  | 52 => ⟨S_, .i32⟩
  | 53 => ⟨S4x64x8x32x128, .i32⟩
  | 54 => ⟨S4x64x8x32x128, .i1⟩
  | 55 => ⟨S_, .i32⟩
  | 56 => ⟨S4x64x8x32x128, .i32⟩
  | 57 => ⟨S4x64x8x32x128, .i32⟩
  | 58 => ⟨S4x64x8x32x128, .i32⟩
  | 59 => ⟨S4x64x8x32x128x1, .i32⟩
  | 60 => ⟨S1, .i32⟩
  | 61 => ⟨S_, .i32⟩
  | 62 => ⟨S4x64x8x32x128x1, .i32⟩
  | 63 => ⟨S4x64x8x32x128x1, .i1⟩
  | 64 => ⟨S1x1x1x1x1x1, .i32⟩
  | 65 => ⟨S4x64x8x32x128x1, .i32⟩
  | 66 => ⟨S4x64x8x32x128x1, .i1⟩
  | 67 => ⟨S4x64x8x32x128x1, .i1⟩
  | 68 => ⟨S_, .i1⟩
  | 69 => ⟨S4x64x8x32x128, .i1⟩
  | 70 => ⟨S4x64x8x32x128, .f32⟩
  | 71 => ⟨S_, .f32⟩
  | 72 => ⟨S4x64x8x32x128, .f32⟩
  | 73 => ⟨S4x64x8x32x128, .f32⟩
  | 74 => ⟨S1x4x64x8x32x128, .f32⟩
  | 75 => ⟨S1x4x64x8x32x128, .f32⟩
  | 76 => ⟨S2x4x64x8x32x128, .f32⟩
  | 77 => ⟨S_, .f32⟩
  | 78 => ⟨S4x64x8x32x128, .f32⟩
  | 79 => ⟨S_, .f32⟩
  | 80 => ⟨S4x64x8x32x128, .f32⟩
  | 81 => ⟨S4x64x8x32x128, .f32⟩
  | 82 => ⟨S4x64x128x8x32, .f32⟩
  | _ => ⟨S4x64x128x8x32, .f32⟩

abbrev hbmTy (i : Nat) : BufTy := match i / 128 with
  | 0 => hbmTy0_0 i
  | 1 => hbmTy0_1 i
  | 2 => hbmTy0_2 i
  | _ => ⟨S4x64x128x8x32, .f32⟩

abbrev bufTy : (tb : Table) → Fin (tcTables nBuf tb) → BufTy
  | .hbm, ⟨i, _⟩ => hbmTy i
  | _, _ => ⟨S4x64x128x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_cst_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_values : Ref sig .tc := ⟨.hbm, 51, rfl⟩
abbrev main_indices : Ref sig .tc := ⟨.hbm, 52, rfl⟩
abbrev main_c : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_c : Ref sig .tc := ⟨.hbm, 62, rfl⟩
abbrev main_call0_v0 : Ref sig .tc := ⟨.hbm, 63, rfl⟩
abbrev main_call0_v1 : Ref sig .tc := ⟨.hbm, 64, rfl⟩
abbrev main_call0_c_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_c_1 : Ref sig .tc := ⟨.hbm, 70, rfl⟩
abbrev main_call0_c_2 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_c_3 : Ref sig .tc := ⟨.hbm, 78, rfl⟩
abbrev main_call0_v12 : Ref sig .tc := ⟨.hbm, 79, rfl⟩
abbrev main_call0_v13 : Ref sig .tc := ⟨.hbm, 80, rfl⟩
abbrev main_call0_cst : Ref sig .tc := ⟨.hbm, 81, rfl⟩
abbrev main_call0_v14 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call1_c : Ref sig .tc := ⟨.hbm, 89, rfl⟩
abbrev main_call1_v0 : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_c_1 : Ref sig .tc := ⟨.hbm, 97, rfl⟩
abbrev main_call1_c_2 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_3 : Ref sig .tc := ⟨.hbm, 105, rfl⟩
abbrev main_call1_v12 : Ref sig .tc := ⟨.hbm, 106, rfl⟩
abbrev main_call1_v13 : Ref sig .tc := ⟨.hbm, 107, rfl⟩
abbrev main_call1_cst : Ref sig .tc := ⟨.hbm, 108, rfl⟩
abbrev main_call1_v14 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_call2_v0 : Ref sig .tc := ⟨.hbm, 117, rfl⟩
abbrev main_call2_v1_0 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_7 : Ref sig .tc := ⟨.hbm, 126, rfl⟩
abbrev main_v67 : Ref sig .tc := ⟨.hbm, 127, rfl⟩
abbrev main_v68 : Ref sig .tc := ⟨.hbm, 128, rfl⟩
abbrev main_cst_8 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_call3_c : Ref sig .tc := ⟨.hbm, 137, rfl⟩
abbrev main_call3_v0 : Ref sig .tc := ⟨.hbm, 138, rfl⟩
abbrev main_call3_v1 : Ref sig .tc := ⟨.hbm, 139, rfl⟩
abbrev main_call3_c_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_c_1 : Ref sig .tc := ⟨.hbm, 145, rfl⟩
abbrev main_call3_c_2 : Ref sig .tc := ⟨.hbm, 146, rfl⟩
abbrev main_call3_v6 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_call3_v11 : Ref sig .tc := ⟨.hbm, 152, rfl⟩
abbrev main_call3_c_3 : Ref sig .tc := ⟨.hbm, 153, rfl⟩
abbrev main_call3_v12 : Ref sig .tc := ⟨.hbm, 154, rfl⟩
abbrev main_call3_v13 : Ref sig .tc := ⟨.hbm, 155, rfl⟩
abbrev main_call3_cst : Ref sig .tc := ⟨.hbm, 156, rfl⟩
abbrev main_call3_v14 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_call4_v0 : Ref sig .tc := ⟨.hbm, 163, rfl⟩
abbrev main_call4_v1_0 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_call5_c : Ref sig .tc := ⟨.hbm, 168, rfl⟩
abbrev main_call5_v0 : Ref sig .tc := ⟨.hbm, 169, rfl⟩
abbrev main_call5_v1 : Ref sig .tc := ⟨.hbm, 170, rfl⟩
abbrev main_call5_c_0 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_v5 : Ref sig .tc := ⟨.hbm, 175, rfl⟩
abbrev main_call5_c_1 : Ref sig .tc := ⟨.hbm, 176, rfl⟩
abbrev main_call5_c_2 : Ref sig .tc := ⟨.hbm, 177, rfl⟩
abbrev main_call5_v6 : Ref sig .tc := ⟨.hbm, 178, rfl⟩
abbrev main_call5_v7 : Ref sig .tc := ⟨.hbm, 179, rfl⟩
abbrev main_call5_v8 : Ref sig .tc := ⟨.hbm, 180, rfl⟩
abbrev main_call5_v9 : Ref sig .tc := ⟨.hbm, 181, rfl⟩
abbrev main_call5_v10 : Ref sig .tc := ⟨.hbm, 182, rfl⟩
abbrev main_call5_v11 : Ref sig .tc := ⟨.hbm, 183, rfl⟩
abbrev main_call5_c_3 : Ref sig .tc := ⟨.hbm, 184, rfl⟩
abbrev main_call5_v12 : Ref sig .tc := ⟨.hbm, 185, rfl⟩
abbrev main_call5_v13 : Ref sig .tc := ⟨.hbm, 186, rfl⟩
abbrev main_call5_cst : Ref sig .tc := ⟨.hbm, 187, rfl⟩
abbrev main_call5_v14 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_call6_v0 : Ref sig .tc := ⟨.hbm, 194, rfl⟩
abbrev main_call6_v1_0 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_cst_9 : Ref sig .tc := ⟨.hbm, 203, rfl⟩
abbrev main_v96 : Ref sig .tc := ⟨.hbm, 204, rfl⟩
abbrev main_v97 : Ref sig .tc := ⟨.hbm, 205, rfl⟩
abbrev main_cst_10 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_call7_c : Ref sig .tc := ⟨.hbm, 214, rfl⟩
abbrev main_call7_v0 : Ref sig .tc := ⟨.hbm, 215, rfl⟩
abbrev main_call7_v1 : Ref sig .tc := ⟨.hbm, 216, rfl⟩
abbrev main_call7_c_0 : Ref sig .tc := ⟨.hbm, 217, rfl⟩
abbrev main_call7_v2 : Ref sig .tc := ⟨.hbm, 218, rfl⟩
abbrev main_call7_v3 : Ref sig .tc := ⟨.hbm, 219, rfl⟩
abbrev main_call7_v4 : Ref sig .tc := ⟨.hbm, 220, rfl⟩
abbrev main_call7_v5 : Ref sig .tc := ⟨.hbm, 221, rfl⟩
abbrev main_call7_c_1 : Ref sig .tc := ⟨.hbm, 222, rfl⟩
abbrev main_call7_c_2 : Ref sig .tc := ⟨.hbm, 223, rfl⟩
abbrev main_call7_v6 : Ref sig .tc := ⟨.hbm, 224, rfl⟩
abbrev main_call7_v7 : Ref sig .tc := ⟨.hbm, 225, rfl⟩
abbrev main_call7_v8 : Ref sig .tc := ⟨.hbm, 226, rfl⟩
abbrev main_call7_v9 : Ref sig .tc := ⟨.hbm, 227, rfl⟩
abbrev main_call7_v10 : Ref sig .tc := ⟨.hbm, 228, rfl⟩
abbrev main_call7_v11 : Ref sig .tc := ⟨.hbm, 229, rfl⟩
abbrev main_call7_c_3 : Ref sig .tc := ⟨.hbm, 230, rfl⟩
abbrev main_call7_v12 : Ref sig .tc := ⟨.hbm, 231, rfl⟩
abbrev main_call7_v13 : Ref sig .tc := ⟨.hbm, 232, rfl⟩
abbrev main_call7_cst : Ref sig .tc := ⟨.hbm, 233, rfl⟩
abbrev main_call7_v14 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_call8_v0 : Ref sig .tc := ⟨.hbm, 240, rfl⟩
abbrev main_call8_v1_0 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_call9_c : Ref sig .tc := ⟨.hbm, 245, rfl⟩
abbrev main_call9_v0 : Ref sig .tc := ⟨.hbm, 246, rfl⟩
abbrev main_call9_v1 : Ref sig .tc := ⟨.hbm, 247, rfl⟩
abbrev main_call9_c_0 : Ref sig .tc := ⟨.hbm, 248, rfl⟩
abbrev main_call9_v2 : Ref sig .tc := ⟨.hbm, 249, rfl⟩
abbrev main_call9_v3 : Ref sig .tc := ⟨.hbm, 250, rfl⟩
abbrev main_call9_v4 : Ref sig .tc := ⟨.hbm, 251, rfl⟩
abbrev main_call9_v5 : Ref sig .tc := ⟨.hbm, 252, rfl⟩
abbrev main_call9_c_1 : Ref sig .tc := ⟨.hbm, 253, rfl⟩
abbrev main_call9_c_2 : Ref sig .tc := ⟨.hbm, 254, rfl⟩
abbrev main_call9_v6 : Ref sig .tc := ⟨.hbm, 255, rfl⟩
abbrev main_call9_v7 : Ref sig .tc := ⟨.hbm, 256, rfl⟩
abbrev main_call9_v8 : Ref sig .tc := ⟨.hbm, 257, rfl⟩
abbrev main_call9_v9 : Ref sig .tc := ⟨.hbm, 258, rfl⟩
abbrev main_call9_v10 : Ref sig .tc := ⟨.hbm, 259, rfl⟩
abbrev main_call9_v11 : Ref sig .tc := ⟨.hbm, 260, rfl⟩
abbrev main_call9_c_3 : Ref sig .tc := ⟨.hbm, 261, rfl⟩
abbrev main_call9_v12 : Ref sig .tc := ⟨.hbm, 262, rfl⟩
abbrev main_call9_v13 : Ref sig .tc := ⟨.hbm, 263, rfl⟩
abbrev main_call9_cst : Ref sig .tc := ⟨.hbm, 264, rfl⟩
abbrev main_call9_v14 : Ref sig .tc := ⟨.hbm, 265, rfl⟩
abbrev main_v113 : Ref sig .tc := ⟨.hbm, 266, rfl⟩
abbrev main_v114 : Ref sig .tc := ⟨.hbm, 267, rfl⟩
abbrev main_v115 : Ref sig .tc := ⟨.hbm, 268, rfl⟩
abbrev main_v116 : Ref sig .tc := ⟨.hbm, 269, rfl⟩
abbrev main_v117 : Ref sig .tc := ⟨.hbm, 270, rfl⟩
abbrev main_c_11 : Ref sig .tc := ⟨.hbm, 271, rfl⟩
abbrev main_v118 : Ref sig .tc := ⟨.hbm, 272, rfl⟩
abbrev main_v119 : Ref sig .tc := ⟨.hbm, 273, rfl⟩
abbrev main_v120 : Ref sig .tc := ⟨.hbm, 274, rfl⟩
abbrev main_v121 : Ref sig .tc := ⟨.hbm, 275, rfl⟩
abbrev main_v122 : Ref sig .tc := ⟨.hbm, 276, rfl⟩
abbrev main_v123 : Ref sig .tc := ⟨.hbm, 277, rfl⟩
abbrev main_v124 : Ref sig .tc := ⟨.hbm, 278, rfl⟩
abbrev main_v125 : Ref sig .tc := ⟨.hbm, 279, rfl⟩
abbrev main_call10_c : Ref sig .tc := ⟨.hbm, 280, rfl⟩
abbrev main_call10_v0 : Ref sig .tc := ⟨.hbm, 281, rfl⟩
abbrev main_call10_v1 : Ref sig .tc := ⟨.hbm, 282, rfl⟩
abbrev main_call10_c_0 : Ref sig .tc := ⟨.hbm, 283, rfl⟩
abbrev main_call10_v2 : Ref sig .tc := ⟨.hbm, 284, rfl⟩
abbrev main_call10_v3 : Ref sig .tc := ⟨.hbm, 285, rfl⟩
abbrev main_call10_v4 : Ref sig .tc := ⟨.hbm, 286, rfl⟩
abbrev main_call10_v5 : Ref sig .tc := ⟨.hbm, 287, rfl⟩
abbrev main_call10_c_1 : Ref sig .tc := ⟨.hbm, 288, rfl⟩
abbrev main_call10_c_2 : Ref sig .tc := ⟨.hbm, 289, rfl⟩
abbrev main_call10_v6 : Ref sig .tc := ⟨.hbm, 290, rfl⟩
abbrev main_call10_v7 : Ref sig .tc := ⟨.hbm, 291, rfl⟩
abbrev main_call10_v8 : Ref sig .tc := ⟨.hbm, 292, rfl⟩
abbrev main_call10_v9 : Ref sig .tc := ⟨.hbm, 293, rfl⟩
abbrev main_call10_v10 : Ref sig .tc := ⟨.hbm, 294, rfl⟩
abbrev main_call10_v11 : Ref sig .tc := ⟨.hbm, 295, rfl⟩
abbrev main_call10_c_3 : Ref sig .tc := ⟨.hbm, 296, rfl⟩
abbrev main_call10_v12 : Ref sig .tc := ⟨.hbm, 297, rfl⟩
abbrev main_call10_v13 : Ref sig .tc := ⟨.hbm, 298, rfl⟩
abbrev main_call10_cst : Ref sig .tc := ⟨.hbm, 299, rfl⟩
abbrev main_call10_v14 : Ref sig .tc := ⟨.hbm, 300, rfl⟩
abbrev main_v126 : Ref sig .tc := ⟨.hbm, 301, rfl⟩
abbrev main_v127 : Ref sig .tc := ⟨.hbm, 302, rfl⟩
abbrev main_v128 : Ref sig .tc := ⟨.hbm, 303, rfl⟩
abbrev main_v129 : Ref sig .tc := ⟨.hbm, 304, rfl⟩
abbrev main_v130 : Ref sig .tc := ⟨.hbm, 305, rfl⟩
abbrev main_v131 : Ref sig .tc := ⟨.hbm, 306, rfl⟩
abbrev main_v132 : Ref sig .tc := ⟨.hbm, 307, rfl⟩
abbrev main_call11_c : Ref sig .tc := ⟨.hbm, 308, rfl⟩
abbrev main_call11_v0 : Ref sig .tc := ⟨.hbm, 309, rfl⟩
abbrev main_call11_v1 : Ref sig .tc := ⟨.hbm, 310, rfl⟩
abbrev main_call11_c_0 : Ref sig .tc := ⟨.hbm, 311, rfl⟩
abbrev main_call11_v2 : Ref sig .tc := ⟨.hbm, 312, rfl⟩
abbrev main_call11_v3 : Ref sig .tc := ⟨.hbm, 313, rfl⟩
abbrev main_call11_v4 : Ref sig .tc := ⟨.hbm, 314, rfl⟩
abbrev main_call11_v5 : Ref sig .tc := ⟨.hbm, 315, rfl⟩
abbrev main_call11_c_1 : Ref sig .tc := ⟨.hbm, 316, rfl⟩
abbrev main_call11_c_2 : Ref sig .tc := ⟨.hbm, 317, rfl⟩
abbrev main_call11_v6 : Ref sig .tc := ⟨.hbm, 318, rfl⟩
abbrev main_call11_v7 : Ref sig .tc := ⟨.hbm, 319, rfl⟩
abbrev main_call11_v8 : Ref sig .tc := ⟨.hbm, 320, rfl⟩
abbrev main_call11_v9 : Ref sig .tc := ⟨.hbm, 321, rfl⟩
abbrev main_call11_v10 : Ref sig .tc := ⟨.hbm, 322, rfl⟩
abbrev main_call11_v11 : Ref sig .tc := ⟨.hbm, 323, rfl⟩
abbrev main_call11_c_3 : Ref sig .tc := ⟨.hbm, 324, rfl⟩
abbrev main_call11_v12 : Ref sig .tc := ⟨.hbm, 325, rfl⟩
abbrev main_call11_v13 : Ref sig .tc := ⟨.hbm, 326, rfl⟩
abbrev main_call11_cst : Ref sig .tc := ⟨.hbm, 327, rfl⟩
abbrev main_call11_v14 : Ref sig .tc := ⟨.hbm, 328, rfl⟩
abbrev main_v133 : Ref sig .tc := ⟨.hbm, 329, rfl⟩
abbrev main_v134 : Ref sig .tc := ⟨.hbm, 330, rfl⟩
abbrev main_v135 : Ref sig .tc := ⟨.hbm, 331, rfl⟩
abbrev main_v136 : Ref sig .tc := ⟨.hbm, 332, rfl⟩
abbrev main_cst_12 : Ref sig .tc := ⟨.hbm, 333, rfl⟩
abbrev main_v137 : Ref sig .tc := ⟨.hbm, 334, rfl⟩
abbrev main_cst_13 : Ref sig .tc := ⟨.hbm, 335, rfl⟩
abbrev main_v138 : Ref sig .tc := ⟨.hbm, 336, rfl⟩
abbrev main_v139 : Ref sig .tc := ⟨.hbm, 337, rfl⟩
abbrev main_v140 : Ref sig .tc := ⟨.hbm, 338, rfl⟩

abbrev nD : Nat := 1
abbrev τ : Topo := Topo.v7x

variable {F : FTy → Type} [FloatOps F]
-- ==== Proof.Body.Base.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The body's branch conditions, and the memrefs it is called on -/

/-! ## The body's branch conditions -/

/-- The condition of the body's `scf.if` 0 from the grid coordinates. -/
abbrev cond0_0 (i : grid0.Coords) : Prop := (Scalar.cmpi .ne (Scalar.extui (Scalar.cmpi .eq (BitVec.ofNat 32 (i 1).val) 0#32)) 0#32) = 1#1
/-- It holds at the points whose coordinates have i1 = 0 — by arithmetic of the point. -/
theorem hcond0_0 : ∀ t : Fin cfg0.N, cond0_0 (grid0.coords t) ↔ t.val / 4 % 2 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val / 4 % 2 = 0)

/-- The condition of the body's `scf.if` 1 , from the grid coordinates. -/
abbrev cond0_1 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_1, e0, e1, e2]
    word_cmp
   : ∀ t : Fin grid0.N, cond0_1 (grid0.coords t) ↔ t.val % 4 = 0)

/-- The condition of the body's `scf.if` 2 , from the grid coordinates. -/
abbrev cond0_2 (i : grid0.Coords) : Prop := (Scalar.cmpi .ne (Scalar.extui (Scalar.cmpi .sgt (BitVec.ofNat 32 (i 2).val) 0#32)) 0#32) = 1#1
/-- It holds at the points whose coordinates have 1 ≤ i2 — decided over the grid. -/
theorem hcond0_2 : ∀ t : Fin cfg0.N, cond0_2 (grid0.coords t) ↔ 1 ≤ t.val % 4 :=
  (by decide +kernel : ∀ t : Fin grid0.N, cond0_2 (grid0.coords t) ↔ 1 ≤ t.val % 4)

/-- The condition of the body's `scf.if` 3 , from the grid coordinates. -/
abbrev cond0_3 (i : grid0.Coords) : Prop := (Scalar.cmpi .ne (Scalar.extui (Scalar.cmpi .eq (BitVec.ofNat 32 (i 2).val) 3#32)) 0#32) = 1#1
/-- It holds at the points ≡ 3 (mod 4) — by arithmetic of the point. -/
theorem hcond0_3 : ∀ t : Fin cfg0.N, cond0_3 (grid0.coords t) ↔ t.val % 4 = 3 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_3, e0, e1, e2]
    word_cmp
   : ∀ t : Fin grid0.N, cond0_3 (grid0.coords t) ↔ t.val % 4 = 3)

/-- The condition of the body's `scf.if` 4 , from the grid coordinates. -/
abbrev cond0_4 (i : grid0.Coords) : Prop := k0_cond5 i = 1#1
/-- It holds at the points whose coordinates have i1 = 1 — by arithmetic of the point. -/
theorem hcond0_4 : ∀ t : Fin cfg0.N, cond0_4 (grid0.coords t) ↔ t.val / 4 % 2 = 1 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_4, k0_cond5, e0, e1, e2]
    word_cmp
   : ∀ t : Fin grid0.N, cond0_4 (grid0.coords t) ↔ t.val / 4 % 2 = 1)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The staging and scratch memrefs -/

/-- Each window's current staging memref at point `t`, and its wholeness. -/
abbrev ms0_0 (t : Fin cfg0.N) : Memref sig .tc .vmem S1x16x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x1024x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S144x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x1024x32 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x256 .f32 := Memref.whole cc0_scratch0
abbrev scM0_1 : Memref sig .tc .vmem S144x256 .f32 := Memref.whole cc0_scratch1
/-- The scratch operands as views. -/
abbrev VS0_0 : View sig .tc .vmem S128x256 .f32 := scM0_0.view
abbrev VS0_1 : View sig .tc .vmem S144x256 .f32 := scM0_1.view

/-- The scratch buffers and the generator register at some contents, as memrefs owned. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Own

end
-- ==== Proof.Body.RunA.lean ====
module

public import proofs.«01_k».proof.Proof.Body.Base

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1x16x128x256 .f32) (harg3 : arg3.IsWhole) (arg4 : Memref sig .tc .vmem S1x16x128x256 .f32) (harg4 : arg4.IsWhole) (arg5 : Memref sig .tc .vmem S1x16x1024x32 .f32) (harg5 : arg5.IsWhole)
  (arg6 : Memref sig .tc .vmem S128x144 .f32) (harg6 : arg6.IsWhole) (arg7 : Memref sig .tc .vmem S144x128 .f32) (harg7 : arg7.IsWhole) (arg8 : Memref sig .tc .vmem S256x128 .f32) (harg8 : arg8.IsWhole) (arg9 : Memref sig .tc .vmem S1x16x1024x32 .f32) (harg9 : arg9.IsWhole)
  (arg10 : Memref sig .tc .vmem S128x256 .f32) (harg10 : arg10.IsWhole) (arg11 : Memref sig .tc .vmem S144x256 .f32) (harg11 : arg11.IsWhole)

-- the proof term is large: the definition's epilogue walks it past the default budget
set_option maxHeartbeats 1000000 in
/-- The body at the first point of the first pass: the pieces it stores into the accumulator, with the proof that it runs and leaves everything else as found. -/
noncomputable def runA (hc0 : cond0_0 i) (hc1 : cond0_1 i) (hc2 : ¬cond0_2 i) (hc3 : ¬cond0_3 i) (hc4 : ¬cond0_4 i)
    (x0 : Vec F S1x16x128x256 .f32) (x1 : Vec F S1x16x128x256 .f32) (x2 : Vec F S1x16x1024x32 .f32) (x3 : Vec F S128x144 .f32) (x4 : Vec F S144x128 .f32) (x5 : Vec F S256x128 .f32) (x6 : Vec F S1x16x1024x32 .f32) :
    { L : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L) ∗ (∃ d, owns (c : Thread nD τ) arg11 fullShare d)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH6, %hfH6, H6⟩, ⟨%dHS0, %fHS0, -, HS0⟩, ⟨%dHS1, %fHS1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfH6
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _, _; isplitr; swap; · iexact HS1
    ipureintro; rfl

end Cert.KernelIdeal.Own

end
-- ==== Proof.Body.RunB.lean ====
module

public import proofs.«01_k».proof.Proof.Body.RunA

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1x16x128x256 .f32) (harg3 : arg3.IsWhole) (arg4 : Memref sig .tc .vmem S1x16x128x256 .f32) (harg4 : arg4.IsWhole) (arg5 : Memref sig .tc .vmem S1x16x1024x32 .f32) (harg5 : arg5.IsWhole)
  (arg6 : Memref sig .tc .vmem S128x144 .f32) (harg6 : arg6.IsWhole) (arg7 : Memref sig .tc .vmem S144x128 .f32) (harg7 : arg7.IsWhole) (arg8 : Memref sig .tc .vmem S256x128 .f32) (harg8 : arg8.IsWhole) (arg9 : Memref sig .tc .vmem S1x16x1024x32 .f32) (harg9 : arg9.IsWhole)
  (arg10 : Memref sig .tc .vmem S128x256 .f32) (harg10 : arg10.IsWhole) (arg11 : Memref sig .tc .vmem S144x256 .f32) (harg11 : arg11.IsWhole)

-- the proof term is large: the definition's epilogue walks it past the default budget
set_option maxHeartbeats 1000000 in
/-- The body at a middle point of the first pass: the pieces it stores into the accumulator. -/
noncomputable def runB (hc0 : cond0_0 i) (hc1 : ¬cond0_1 i) (hc2 : cond0_2 i) (hc3 : ¬cond0_3 i) (hc4 : ¬cond0_4 i)
    (x0 : Vec F S1x16x128x256 .f32) (x1 : Vec F S1x16x128x256 .f32) (x2 : Vec F S1x16x1024x32 .f32) (x3 : Vec F S128x144 .f32) (x4 : Vec F S144x128 .f32) (x5 : Vec F S256x128 .f32) (x6 : Vec F S1x16x1024x32 .f32) (xs0 : Vec F S128x256 .f32) :
    { L : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xs0 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L) ∗ (∃ d, owns (c : Thread nD τ) arg11 fullShare d)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH6, %hfH6, H6⟩, ⟨%fHS0, %hfHS0, HS0⟩, ⟨%dHS1, %fHS1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfH6; obtain rfl := harg10.eq_unread hfHS0
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _, _; isplitr; swap; · iexact HS1
    ipureintro; rfl

end Cert.KernelIdeal.Own

end
-- ==== Proof.Body.RunC.lean ====
module

public import proofs.«01_k».proof.Proof.Body.RunB

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1x16x128x256 .f32) (harg3 : arg3.IsWhole) (arg4 : Memref sig .tc .vmem S1x16x128x256 .f32) (harg4 : arg4.IsWhole) (arg5 : Memref sig .tc .vmem S1x16x1024x32 .f32) (harg5 : arg5.IsWhole)
  (arg6 : Memref sig .tc .vmem S128x144 .f32) (harg6 : arg6.IsWhole) (arg7 : Memref sig .tc .vmem S144x128 .f32) (harg7 : arg7.IsWhole) (arg8 : Memref sig .tc .vmem S256x128 .f32) (harg8 : arg8.IsWhole) (arg9 : Memref sig .tc .vmem S1x16x1024x32 .f32) (harg9 : arg9.IsWhole)
  (arg10 : Memref sig .tc .vmem S128x256 .f32) (harg10 : arg10.IsWhole) (arg11 : Memref sig .tc .vmem S144x256 .f32) (harg11 : arg11.IsWhole)

-- the proof term is large: the definition's epilogue walks it past the default budget
set_option maxHeartbeats 1000000 in
/-- The body at the last point of the first pass: the pieces it stores into the accumulator and into the mean query's transform. -/
noncomputable def runC (hc0 : cond0_0 i) (hc1 : ¬cond0_1 i) (hc2 : cond0_2 i) (hc3 : cond0_3 i) (hc4 : ¬cond0_4 i)
    (x0 : Vec F S1x16x128x256 .f32) (x1 : Vec F S1x16x128x256 .f32) (x2 : Vec F S1x16x1024x32 .f32) (x3 : Vec F S128x144 .f32) (x4 : Vec F S144x128 .f32) (x5 : Vec F S256x128 .f32) (x6 : Vec F S1x16x1024x32 .f32) (xs0 : Vec F S128x256 .f32) :
    { L : List (View.Piece (Elt F) S128x256 .f32) × List (View.Piece (Elt F) S144x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xs0 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨(?_, ?_), fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH6, %hfH6, H6⟩, ⟨%fHS0, %hfHS0, HS0⟩, ⟨%dHS1, %fHS1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfH6; obtain rfl := harg10.eq_unread hfHS0
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Own

end
-- ==== Proof.Body.RunD.lean ====
module

public import proofs.«01_k».proof.Proof.Body.RunC

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1x16x128x256 .f32) (harg3 : arg3.IsWhole) (arg4 : Memref sig .tc .vmem S1x16x128x256 .f32) (harg4 : arg4.IsWhole) (arg5 : Memref sig .tc .vmem S1x16x1024x32 .f32) (harg5 : arg5.IsWhole)
  (arg6 : Memref sig .tc .vmem S128x144 .f32) (harg6 : arg6.IsWhole) (arg7 : Memref sig .tc .vmem S144x128 .f32) (harg7 : arg7.IsWhole) (arg8 : Memref sig .tc .vmem S256x128 .f32) (harg8 : arg8.IsWhole) (arg9 : Memref sig .tc .vmem S1x16x1024x32 .f32) (harg9 : arg9.IsWhole)
  (arg10 : Memref sig .tc .vmem S128x256 .f32) (harg10 : arg10.IsWhole) (arg11 : Memref sig .tc .vmem S144x256 .f32) (harg11 : arg11.IsWhole)

-- the proof term is large: the definition's epilogue walks it past the default budget
set_option maxHeartbeats 1000000 in
/-- The body at a point of the second pass: the pieces it stores into the output block. -/
noncomputable def runD (hc0 : ¬cond0_0 i) (hc4 : cond0_4 i)
    (x0 : Vec F S1x16x128x256 .f32) (x1 : Vec F S1x16x128x256 .f32) (x2 : Vec F S1x16x1024x32 .f32) (x3 : Vec F S128x144 .f32) (x4 : Vec F S144x128 .f32) (x5 : Vec F S256x128 .f32) (xs1 : Vec F S144x256 .f32) :
    { L : List (View.Piece (Elt F) S1x16x1024x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L) ∗ (∃ d, owns (c : Thread nD τ) arg10 fullShare d) ∗ owns (c : Thread nD τ) arg11 fullShare xs1) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dH6, %fH6, -, H6⟩, ⟨%dHS0, %fHS0, -, HS0⟩, ⟨%fHS1, %hfHS1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfHS1
    sl_exec (disch := first | sl_exact hc0 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    iexists _; isplitr; · ipureintro; exact harg11.read_unread _
    iexact HS1

end Cert.KernelIdeal.Own

end
-- ==== Proof.Body.Vals.lean ====
module

public import proofs.«01_k».proof.Proof.Body.RunD
public import Idealize.ShloMosaic.Lib.Pipeline.ValueKit
public import Idealize.ShloMosaic.Lib.Pointwise

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (c : Dev nD) (i : grid0.Coords) (arg3 : Memref sig .tc .vmem S1x16x128x256 .f32) (harg3 : arg3.IsWhole) (arg4 : Memref sig .tc .vmem S1x16x128x256 .f32) (harg4 : arg4.IsWhole) (arg5 : Memref sig .tc .vmem S1x16x1024x32 .f32) (harg5 : arg5.IsWhole)
  (arg6 : Memref sig .tc .vmem S128x144 .f32) (harg6 : arg6.IsWhole) (arg7 : Memref sig .tc .vmem S144x128 .f32) (harg7 : arg7.IsWhole) (arg8 : Memref sig .tc .vmem S256x128 .f32) (harg8 : arg8.IsWhole) (arg9 : Memref sig .tc .vmem S1x16x1024x32 .f32) (harg9 : arg9.IsWhole)
  (arg10 : Memref sig .tc .vmem S128x256 .f32) (harg10 : arg10.IsWhole) (arg11 : Memref sig .tc .vmem S144x256 .f32) (harg11 : arg11.IsWhole)

/-! # The values the first pass leaves: the sum of the queries over the nodes, and its transform -/

theorem sum16 (f : Fin 16 → EReal) : ∑ i, f i = f 0 + f 1 + f 2 + f 3 + f 4 + f 5 + f 6 + f 7 + f 8 + f 9 + f 10 + f 11 + f 12 + f 13 + f 14 + f 15 := by
  simp only [Fin.sum_univ_succ, Fin.sum_univ_zero, add_zero, add_assoc]
  rfl

/-- The sum of a block's 16 nodes. -/
def sumQ (x0 : FVec Ideal S1x16x128x256 .f32) : FVec Ideal S128x256 .f32 := fun j => ∑ i : Fin 16, x0 (ix4 0 i (j 0) (j 1))

/-- The transform of the mean: the table's columns against the sum times one sixty-fourth. -/
def qqOf (x3 : FVec Ideal S128x144 .f32) (a : FVec Ideal S128x256 .f32) : FVec Ideal S144x256 .f32 := fun j =>
  ∑ t : Fin 128, x3 (ix2 t (j 0)) * (a (ix2 t (j 1)) * Ideal.ofBits .f32 0x3C800000#32)

theorem readA (hc0 : cond0_0 i) (hc1 : cond0_1 i) (hc2 : ¬cond0_2 i) (hc3 : ¬cond0_3 i) (hc4 : ¬cond0_4 i) (x0 : FVec Ideal S1x16x128x256 .f32) (x1 : FVec Ideal S1x16x128x256 .f32) (x2 : FVec Ideal S1x16x1024x32 .f32) (x3 : FVec Ideal S128x144 .f32) (x4 : FVec Ideal S144x128 .f32) (x5 : FVec Ideal S256x128 .f32) (x6 : FVec Ideal S1x16x1024x32 .f32) (f : arg10.view.ty.Contents (Elt Ideal)) :
    arg10.view.read (Elt Ideal) (arg10.view.writes (Elt Ideal) f (runA (F := Ideal) c i arg3 harg3 arg4 harg4 arg5 harg5 arg6 harg6 arg7 harg7 arg8 harg8 arg9 harg9 arg10 harg10 arg11 harg11 hc0 hc1 hc2 hc3 hc4 x0 x1 x2 x3 x4 x5 x6).1) = sumQ x0 := by
  rw [View.read_writes_eq_canon _ _ _ (fun y => View.cover_of_tiledL (runA (F := Ideal) c i arg3 harg3 arg4 harg4 arg5 harg5 arg6 harg6 arg7 harg7 arg8 harg8 arg9 harg9 arg10 harg10 arg11 harg11 hc0 hc1 hc2 hc3 hc4 x0 x1 x2 x3 x4 x5 x6).1 S128x256.size (by sl_kernel_rfl) y)]
  frame_out
  funext j
  idx_vars j
  pointwise [k0_pay6, k0_pay5, k0_pay4, sumQ]
  rw [sum16]

theorem readB (hc0 : cond0_0 i) (hc1 : ¬cond0_1 i) (hc2 : cond0_2 i) (hc3 : ¬cond0_3 i) (hc4 : ¬cond0_4 i) (x0 : FVec Ideal S1x16x128x256 .f32) (x1 : FVec Ideal S1x16x128x256 .f32) (x2 : FVec Ideal S1x16x1024x32 .f32) (x3 : FVec Ideal S128x144 .f32) (x4 : FVec Ideal S144x128 .f32) (x5 : FVec Ideal S256x128 .f32) (x6 : FVec Ideal S1x16x1024x32 .f32) (xs0 : FVec Ideal S128x256 .f32) (f : arg10.view.ty.Contents (Elt Ideal)) :
    arg10.view.read (Elt Ideal) (arg10.view.writes (Elt Ideal) f (runB (F := Ideal) c i arg3 harg3 arg4 harg4 arg5 harg5 arg6 harg6 arg7 harg7 arg8 harg8 arg9 harg9 arg10 harg10 arg11 harg11 hc0 hc1 hc2 hc3 hc4 x0 x1 x2 x3 x4 x5 x6 xs0).1) = fun j => xs0 j + sumQ x0 j := by
  rw [View.read_writes_eq_canon _ _ _ (fun y => View.cover_of_tiledL (runB (F := Ideal) c i arg3 harg3 arg4 harg4 arg5 harg5 arg6 harg6 arg7 harg7 arg8 harg8 arg9 harg9 arg10 harg10 arg11 harg11 hc0 hc1 hc2 hc3 hc4 x0 x1 x2 x3 x4 x5 x6 xs0).1 S128x256.size (by sl_kernel_rfl) y)]
  frame_out
  funext j
  idx_vars j
  pointwise [k0_pay1, k0_pay5, k0_pay4, sumQ]
  rw [sum16]

theorem readC0 (hc0 : cond0_0 i) (hc1 : ¬cond0_1 i) (hc2 : cond0_2 i) (hc3 : cond0_3 i) (hc4 : ¬cond0_4 i) (x0 : FVec Ideal S1x16x128x256 .f32) (x1 : FVec Ideal S1x16x128x256 .f32) (x2 : FVec Ideal S1x16x1024x32 .f32) (x3 : FVec Ideal S128x144 .f32) (x4 : FVec Ideal S144x128 .f32) (x5 : FVec Ideal S256x128 .f32) (x6 : FVec Ideal S1x16x1024x32 .f32) (xs0 : FVec Ideal S128x256 .f32) (f : arg10.view.ty.Contents (Elt Ideal)) :
    arg10.view.read (Elt Ideal) (arg10.view.writes (Elt Ideal) f (runC (F := Ideal) c i arg3 harg3 arg4 harg4 arg5 harg5 arg6 harg6 arg7 harg7 arg8 harg8 arg9 harg9 arg10 harg10 arg11 harg11 hc0 hc1 hc2 hc3 hc4 x0 x1 x2 x3 x4 x5 x6 xs0).1.1) = fun j => xs0 j + sumQ x0 j := by
  rw [View.read_writes_eq_canon _ _ _ (fun y => View.cover_of_tiledL (runC (F := Ideal) c i arg3 harg3 arg4 harg4 arg5 harg5 arg6 harg6 arg7 harg7 arg8 harg8 arg9 harg9 arg10 harg10 arg11 harg11 hc0 hc1 hc2 hc3 hc4 x0 x1 x2 x3 x4 x5 x6 xs0).1.1 S128x256.size (by sl_kernel_rfl) y)]
  frame_out
  funext j
  idx_vars j
  pointwise [k0_pay1, k0_pay5, k0_pay4, sumQ]
  rw [sum16]

theorem readC1 (hc0 : cond0_0 i) (hc1 : ¬cond0_1 i) (hc2 : cond0_2 i) (hc3 : cond0_3 i) (hc4 : ¬cond0_4 i) (x0 : FVec Ideal S1x16x128x256 .f32) (x1 : FVec Ideal S1x16x128x256 .f32) (x2 : FVec Ideal S1x16x1024x32 .f32) (x3 : FVec Ideal S128x144 .f32) (x4 : FVec Ideal S144x128 .f32) (x5 : FVec Ideal S256x128 .f32) (x6 : FVec Ideal S1x16x1024x32 .f32) (xs0 : FVec Ideal S128x256 .f32) (f : arg11.view.ty.Contents (Elt Ideal)) :
    arg11.view.read (Elt Ideal) (arg11.view.writes (Elt Ideal) f (runC (F := Ideal) c i arg3 harg3 arg4 harg4 arg5 harg5 arg6 harg6 arg7 harg7 arg8 harg8 arg9 harg9 arg10 harg10 arg11 harg11 hc0 hc1 hc2 hc3 hc4 x0 x1 x2 x3 x4 x5 x6 xs0).1.2) = qqOf x3 (fun j => xs0 j + sumQ x0 j) := by
  rw [View.read_writes_eq_canon _ _ _ (fun y => View.cover_of_tiledL (runC (F := Ideal) c i arg3 harg3 arg4 harg4 arg5 harg5 arg6 harg6 arg7 harg7 arg8 harg8 arg9 harg9 arg10 harg10 arg11 harg11 hc0 hc1 hc2 hc3 hc4 x0 x1 x2 x3 x4 x5 x6 xs0).1.2 S144x256.size (by sl_kernel_rfl) y)]
  frame_out
  funext j
  idx_vars j
  pointwise [k0_pay2, k0_pay1, k0_pay5, k0_pay4, sumQ, qqOf]
  simp only [sum16, zero_add]

end Cert.KernelIdeal.Own

end
-- ==== Proof.Body.Cat.lean ====
module

public import proofs.«01_k».proof.Proof.Gen.KernelIdeal.Skeleton
public import Idealize.ShloMosaic.Lib.Pipeline.ValueKit
public import Idealize.ShloMosaic.Lib.Pointwise

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Cert.KernelIdeal Cert.KernelIdeal.Gen

/-- Sixteen blocks of 256 columns laid side by side: column `i * 256 + e` is column `e` of block `i`. -/
theorem cat_72 (Y : Fin 16 → FVec Ideal S72x256 .f32)
    (f : Fin 72) (i : Fin 16) (e : Fin 256)
    (j : Fin 4096) (hj : j.val = i.val * 256 + e.val) :
    concatenate S72x4096 1 [⟨S72x256, Y 0⟩, ⟨S72x256, Y 1⟩, ⟨S72x256, Y 2⟩, ⟨S72x256, Y 3⟩, ⟨S72x256, Y 4⟩, ⟨S72x256, Y 5⟩, ⟨S72x256, Y 6⟩, ⟨S72x256, Y 7⟩, ⟨S72x256, Y 8⟩, ⟨S72x256, Y 9⟩, ⟨S72x256, Y 10⟩, ⟨S72x256, Y 11⟩, ⟨S72x256, Y 12⟩, ⟨S72x256, Y 13⟩, ⟨S72x256, Y 14⟩, ⟨S72x256, Y 15⟩]
      concatenates_S72x256_S72x256_S72x256_S72x256_S72x256_S72x256_S72x256_S72x256_S72x256_S72x256_S72x256_S72x256_S72x256_S72x256_S72x256_S72x256_S72x4096_d1 (ix2 f j) = Y i (ix2 f e) := by
  refine concatenate_ofFn_apply (t := S72x4096) (s₁ := S72x256) 1 Y _ rfl 256 rfl (ix2 f j) i ?_ (ix2 f e) ?_ ?_
  · show j.val / 256 = i.val
    omega
  · show e.val = j.val % 256
    omega
  · intro b hb
    match b with
    | 0 => rfl
    | 1 => exact absurd rfl hb

/-- Sixteen blocks of 256 columns laid side by side: column `i * 256 + e` is column `e` of block `i`. -/
theorem cat_128 (Y : Fin 16 → FVec Ideal S128x256 .f32)
    (f : Fin 128) (i : Fin 16) (e : Fin 256)
    (j : Fin 4096) (hj : j.val = i.val * 256 + e.val) :
    concatenate S128x4096 1 [⟨S128x256, Y 0⟩, ⟨S128x256, Y 1⟩, ⟨S128x256, Y 2⟩, ⟨S128x256, Y 3⟩, ⟨S128x256, Y 4⟩, ⟨S128x256, Y 5⟩, ⟨S128x256, Y 6⟩, ⟨S128x256, Y 7⟩, ⟨S128x256, Y 8⟩, ⟨S128x256, Y 9⟩, ⟨S128x256, Y 10⟩, ⟨S128x256, Y 11⟩, ⟨S128x256, Y 12⟩, ⟨S128x256, Y 13⟩, ⟨S128x256, Y 14⟩, ⟨S128x256, Y 15⟩]
      concatenates_S128x256_S128x256_S128x256_S128x256_S128x256_S128x256_S128x256_S128x256_S128x256_S128x256_S128x256_S128x256_S128x256_S128x256_S128x256_S128x256_S128x4096_d1 (ix2 f j) = Y i (ix2 f e) := by
  refine concatenate_ofFn_apply (t := S128x4096) (s₁ := S128x256) 1 Y _ rfl 256 rfl (ix2 f j) i ?_ (ix2 f e) ?_ ?_
  · show j.val / 256 = i.val
    omega
  · show e.val = j.val % 256
    omega
  · intro b hb
    match b with
    | 0 => rfl
    | 1 => exact absurd rfl hb

/-- Sixteen blocks of 128 columns laid side by side: column `i * 128 + e` is column `e` of block `i`. -/
theorem cat_144 (Y : Fin 16 → FVec Ideal S144x128 .f32)
    (f : Fin 144) (i : Fin 16) (e : Fin 128)
    (j : Fin 2048) (hj : j.val = i.val * 128 + e.val) :
    concatenate S144x2048 1 [⟨S144x128, Y 0⟩, ⟨S144x128, Y 1⟩, ⟨S144x128, Y 2⟩, ⟨S144x128, Y 3⟩, ⟨S144x128, Y 4⟩, ⟨S144x128, Y 5⟩, ⟨S144x128, Y 6⟩, ⟨S144x128, Y 7⟩, ⟨S144x128, Y 8⟩, ⟨S144x128, Y 9⟩, ⟨S144x128, Y 10⟩, ⟨S144x128, Y 11⟩, ⟨S144x128, Y 12⟩, ⟨S144x128, Y 13⟩, ⟨S144x128, Y 14⟩, ⟨S144x128, Y 15⟩]
      concatenates_S144x128_S144x128_S144x128_S144x128_S144x128_S144x128_S144x128_S144x128_S144x128_S144x128_S144x128_S144x128_S144x128_S144x128_S144x128_S144x128_S144x2048_d1 (ix2 f j) = Y i (ix2 f e) := by
  refine concatenate_ofFn_apply (t := S144x2048) (s₁ := S144x128) 1 Y _ rfl 128 rfl (ix2 f j) i ?_ (ix2 f e) ?_ ?_
  · show j.val / 128 = i.val
    omega
  · show e.val = j.val % 128
    omega
  · intro b hb
    match b with
    | 0 => rfl
    | 1 => exact absurd rfl hb

end Cert.KernelIdeal.Own

end
-- ==== Proof.Body.Arith.lean ====
module

public import proofs.«01_k».proof.Proof.Body.Cat
public import Idealize.ShloMosaic.Lib.Pipeline.ValueKit
public import Idealize.ShloMosaic.Lib.Pointwise

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Cert.KernelIdeal Cert.KernelIdeal.Gen

/-! # What the second pass computes before it scales the values -/

/-- The real parts of the queries' transform, repeated for each of the sixteen nodes. -/
theorem pay7_at (v : FVec Ideal S144x256 .f32) (f : Fin 72) (i : Fin 16) (e : Fin 256) (j : Fin 4096)
    (hj : j.val = i.val * 256 + e.val) :
    k0_pay7 (F := Ideal) v (ix2 f j) = v (ix2 ⟨f.val, by omega⟩ e) := by
  refine (cat_72 (fun _ => extractStridedSlice S72x256 ![0, 0] v slices_S144x256_o0_0_S72x256) f i e j hj).trans ?_
  pointwise []

/-- The imaginary parts of the queries' transform, repeated for each of the sixteen nodes. -/
theorem pay8_at (v : FVec Ideal S144x256 .f32) (f : Fin 72) (i : Fin 16) (e : Fin 256) (j : Fin 4096)
    (hj : j.val = i.val * 256 + e.val) :
    k0_pay8 (F := Ideal) v (ix2 f j) = v (ix2 ⟨72 + f.val, by omega⟩ e) := by
  refine (cat_72 (fun _ => extractStridedSlice S72x256 ![72, 0] v slices_S144x256_o72_0_S72x256) f i e j hj).trans ?_
  pointwise []

/-- The transform of one node's keys at one frequency row and one channel. -/
def kkAt (x3 : FVec Ideal S128x144 .f32) (Y : Fin 16 → FVec Ideal S1x1x128x256 .f32) (f : Fin 144) (i : Fin 16)
    (e : Fin 256) : EReal := ∑ t : Fin 128, x3 (ix2 t f) * Y i (ix4 0 0 t e)

theorem mm_keys (L : FVec Ideal S128x144 .f32) (X : FVec Ideal S128x4096 .f32) (f : Fin 144) (j : Fin 4096) :
    matmul dot_S128x144_S128x4096_S144x4096_0_0_1_1_n_n none L X (constant (F := Ideal) S144x4096 .f32 0x00000000#32)
      (ix2 f j) = ∑ t : Fin 128, L (ix2 t f) * X (ix2 t j) := by
  pointwise []

theorem pay16_at (x3 : FVec Ideal S128x144 .f32) (Y : Fin 16 → FVec Ideal S1x1x128x256 .f32) (f : Fin 144)
    (i : Fin 16) (e : Fin 256) (j : Fin 4096) (hj : j.val = i.val * 256 + e.val) :
    k0_pay16 (F := Ideal) x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15) (ix2 f j) = kkAt x3 Y f i e := by
  refine (mm_keys x3 (concatenate S128x4096 1 [⟨S128x256, (fun k => shapeCast S128x256 (Y k) shapeCasts_S1x1x128x256_S128x256 : Fin 16 → FVec Ideal S128x256 .f32) 0⟩, ⟨S128x256, (fun k => shapeCast S128x256 (Y k) shapeCasts_S1x1x128x256_S128x256 : Fin 16 → FVec Ideal S128x256 .f32) 1⟩, ⟨S128x256, (fun k => shapeCast S128x256 (Y k) shapeCasts_S1x1x128x256_S128x256 : Fin 16 → FVec Ideal S128x256 .f32) 2⟩, ⟨S128x256, (fun k => shapeCast S128x256 (Y k) shapeCasts_S1x1x128x256_S128x256 : Fin 16 → FVec Ideal S128x256 .f32) 3⟩, ⟨S128x256, (fun k => shapeCast S128x256 (Y k) shapeCasts_S1x1x128x256_S128x256 : Fin 16 → FVec Ideal S128x256 .f32) 4⟩, ⟨S128x256, (fun k => shapeCast S128x256 (Y k) shapeCasts_S1x1x128x256_S128x256 : Fin 16 → FVec Ideal S128x256 .f32) 5⟩, ⟨S128x256, (fun k => shapeCast S128x256 (Y k) shapeCasts_S1x1x128x256_S128x256 : Fin 16 → FVec Ideal S128x256 .f32) 6⟩, ⟨S128x256, (fun k => shapeCast S128x256 (Y k) shapeCasts_S1x1x128x256_S128x256 : Fin 16 → FVec Ideal S128x256 .f32) 7⟩, ⟨S128x256, (fun k => shapeCast S128x256 (Y k) shapeCasts_S1x1x128x256_S128x256 : Fin 16 → FVec Ideal S128x256 .f32) 8⟩, ⟨S128x256, (fun k => shapeCast S128x256 (Y k) shapeCasts_S1x1x128x256_S128x256 : Fin 16 → FVec Ideal S128x256 .f32) 9⟩, ⟨S128x256, (fun k => shapeCast S128x256 (Y k) shapeCasts_S1x1x128x256_S128x256 : Fin 16 → FVec Ideal S128x256 .f32) 10⟩, ⟨S128x256, (fun k => shapeCast S128x256 (Y k) shapeCasts_S1x1x128x256_S128x256 : Fin 16 → FVec Ideal S128x256 .f32) 11⟩, ⟨S128x256, (fun k => shapeCast S128x256 (Y k) shapeCasts_S1x1x128x256_S128x256 : Fin 16 → FVec Ideal S128x256 .f32) 12⟩, ⟨S128x256, (fun k => shapeCast S128x256 (Y k) shapeCasts_S1x1x128x256_S128x256 : Fin 16 → FVec Ideal S128x256 .f32) 13⟩, ⟨S128x256, (fun k => shapeCast S128x256 (Y k) shapeCasts_S1x1x128x256_S128x256 : Fin 16 → FVec Ideal S128x256 .f32) 14⟩, ⟨S128x256, (fun k => shapeCast S128x256 (Y k) shapeCasts_S1x1x128x256_S128x256 : Fin 16 → FVec Ideal S128x256 .f32) 15⟩]
      concatenates_S128x256_S128x256_S128x256_S128x256_S128x256_S128x256_S128x256_S128x256_S128x256_S128x256_S128x256_S128x256_S128x256_S128x256_S128x256_S128x256_S128x4096_d1) f j).trans ?_
  refine Finset.sum_congr rfl fun t _ => congrArg (x3 (ix2 t f) * ·) ?_
  refine (cat_128 (fun k => shapeCast S128x256 (Y k) shapeCasts_S1x1x128x256_S128x256) t i e j hj).trans ?_
  pointwise []

theorem pay17_at (x3 : FVec Ideal S128x144 .f32) (Y : Fin 16 → FVec Ideal S1x1x128x256 .f32) (f : Fin 72)
    (i : Fin 16) (e : Fin 256) (j : Fin 4096) (hj : j.val = i.val * 256 + e.val) :
    k0_pay17 (F := Ideal) x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15) (ix2 f j) = kkAt x3 Y ⟨f.val, by omega⟩ i e := by
  rw [← pay16_at x3 Y ⟨f.val, by omega⟩ i e j hj]
  unfold k0_pay17
  generalize k0_pay16 (F := Ideal) x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15) = W
  pointwise []

theorem pay18_at (x3 : FVec Ideal S128x144 .f32) (Y : Fin 16 → FVec Ideal S1x1x128x256 .f32) (f : Fin 72)
    (i : Fin 16) (e : Fin 256) (j : Fin 4096) (hj : j.val = i.val * 256 + e.val) :
    k0_pay18 (F := Ideal) x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15) (ix2 f j) = kkAt x3 Y ⟨72 + f.val, by omega⟩ i e := by
  rw [← pay16_at x3 Y ⟨72 + f.val, by omega⟩ i e j hj]
  unfold k0_pay18
  generalize k0_pay16 (F := Ideal) x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15) = W
  pointwise []

/-- The columns of one node. -/
def slab (W : FVec Ideal S144x4096 .f32) : Fin 16 → FVec Ideal S144x256 .f32 :=
  ![extractStridedSlice S144x256 ![0, 0] W slices_S144x4096_o0_0_S144x256,
    extractStridedSlice S144x256 ![0, 256] W slices_S144x4096_o0_256_S144x256,
    extractStridedSlice S144x256 ![0, 512] W slices_S144x4096_o0_512_S144x256,
    extractStridedSlice S144x256 ![0, 768] W slices_S144x4096_o0_768_S144x256,
    extractStridedSlice S144x256 ![0, 1024] W slices_S144x4096_o0_1024_S144x256,
    extractStridedSlice S144x256 ![0, 1280] W slices_S144x4096_o0_1280_S144x256,
    extractStridedSlice S144x256 ![0, 1536] W slices_S144x4096_o0_1536_S144x256,
    extractStridedSlice S144x256 ![0, 1792] W slices_S144x4096_o0_1792_S144x256,
    extractStridedSlice S144x256 ![0, 2048] W slices_S144x4096_o0_2048_S144x256,
    extractStridedSlice S144x256 ![0, 2304] W slices_S144x4096_o0_2304_S144x256,
    extractStridedSlice S144x256 ![0, 2560] W slices_S144x4096_o0_2560_S144x256,
    extractStridedSlice S144x256 ![0, 2816] W slices_S144x4096_o0_2816_S144x256,
    extractStridedSlice S144x256 ![0, 3072] W slices_S144x4096_o0_3072_S144x256,
    extractStridedSlice S144x256 ![0, 3328] W slices_S144x4096_o0_3328_S144x256,
    extractStridedSlice S144x256 ![0, 3584] W slices_S144x4096_o0_3584_S144x256,
    extractStridedSlice S144x256 ![0, 3840] W slices_S144x4096_o0_3840_S144x256]

theorem slab_at (W : FVec Ideal S144x4096 .f32) (f : Fin 144) (i : Fin 16) (e : Fin 256) (j : Fin 4096)
    (hj : j.val = i.val * 256 + e.val) : slab W i (ix2 f e) = W (ix2 f j) := by
  fin_vals i with hi
  · obtain rfl : i = 0 := Fin.ext hi
    show extractStridedSlice S144x256 ![0, 0] W slices_S144x4096_o0_0_S144x256 (ix2 f e) = _
    pointwise []
    exact congrArg W ((ix2_inj ..).2 ⟨rfl, Fin.ext (by simp only [hj, Fin.isValue, Fin.coe_ofNat_eq_mod] <;> omega)⟩)
  · obtain rfl : i = 1 := Fin.ext hi
    show extractStridedSlice S144x256 ![0, 256] W slices_S144x4096_o0_256_S144x256 (ix2 f e) = _
    pointwise []
    exact congrArg W ((ix2_inj ..).2 ⟨rfl, Fin.ext (by simp only [hj, Fin.isValue, Fin.coe_ofNat_eq_mod] <;> omega)⟩)
  · obtain rfl : i = 2 := Fin.ext hi
    show extractStridedSlice S144x256 ![0, 512] W slices_S144x4096_o0_512_S144x256 (ix2 f e) = _
    pointwise []
    exact congrArg W ((ix2_inj ..).2 ⟨rfl, Fin.ext (by simp only [hj, Fin.isValue, Fin.coe_ofNat_eq_mod] <;> omega)⟩)
  · obtain rfl : i = 3 := Fin.ext hi
    show extractStridedSlice S144x256 ![0, 768] W slices_S144x4096_o0_768_S144x256 (ix2 f e) = _
    pointwise []
    exact congrArg W ((ix2_inj ..).2 ⟨rfl, Fin.ext (by simp only [hj, Fin.isValue, Fin.coe_ofNat_eq_mod] <;> omega)⟩)
  · obtain rfl : i = 4 := Fin.ext hi
    show extractStridedSlice S144x256 ![0, 1024] W slices_S144x4096_o0_1024_S144x256 (ix2 f e) = _
    pointwise []
    exact congrArg W ((ix2_inj ..).2 ⟨rfl, Fin.ext (by simp only [hj, Fin.isValue, Fin.coe_ofNat_eq_mod] <;> omega)⟩)
  · obtain rfl : i = 5 := Fin.ext hi
    show extractStridedSlice S144x256 ![0, 1280] W slices_S144x4096_o0_1280_S144x256 (ix2 f e) = _
    pointwise []
    exact congrArg W ((ix2_inj ..).2 ⟨rfl, Fin.ext (by simp only [hj, Fin.isValue, Fin.coe_ofNat_eq_mod] <;> omega)⟩)
  · obtain rfl : i = 6 := Fin.ext hi
    show extractStridedSlice S144x256 ![0, 1536] W slices_S144x4096_o0_1536_S144x256 (ix2 f e) = _
    pointwise []
    exact congrArg W ((ix2_inj ..).2 ⟨rfl, Fin.ext (by simp only [hj, Fin.isValue, Fin.coe_ofNat_eq_mod] <;> omega)⟩)
  · obtain rfl : i = 7 := Fin.ext hi
    show extractStridedSlice S144x256 ![0, 1792] W slices_S144x4096_o0_1792_S144x256 (ix2 f e) = _
    pointwise []
    exact congrArg W ((ix2_inj ..).2 ⟨rfl, Fin.ext (by simp only [hj, Fin.isValue, Fin.coe_ofNat_eq_mod] <;> omega)⟩)
  · obtain rfl : i = 8 := Fin.ext hi
    show extractStridedSlice S144x256 ![0, 2048] W slices_S144x4096_o0_2048_S144x256 (ix2 f e) = _
    pointwise []
    exact congrArg W ((ix2_inj ..).2 ⟨rfl, Fin.ext (by simp only [hj, Fin.isValue, Fin.coe_ofNat_eq_mod] <;> omega)⟩)
  · obtain rfl : i = 9 := Fin.ext hi
    show extractStridedSlice S144x256 ![0, 2304] W slices_S144x4096_o0_2304_S144x256 (ix2 f e) = _
    pointwise []
    exact congrArg W ((ix2_inj ..).2 ⟨rfl, Fin.ext (by simp only [hj, Fin.isValue, Fin.coe_ofNat_eq_mod] <;> omega)⟩)
  · obtain rfl : i = 10 := Fin.ext hi
    show extractStridedSlice S144x256 ![0, 2560] W slices_S144x4096_o0_2560_S144x256 (ix2 f e) = _
    pointwise []
    exact congrArg W ((ix2_inj ..).2 ⟨rfl, Fin.ext (by simp only [hj, Fin.isValue, Fin.coe_ofNat_eq_mod] <;> omega)⟩)
  · obtain rfl : i = 11 := Fin.ext hi
    show extractStridedSlice S144x256 ![0, 2816] W slices_S144x4096_o0_2816_S144x256 (ix2 f e) = _
    pointwise []
    exact congrArg W ((ix2_inj ..).2 ⟨rfl, Fin.ext (by simp only [hj, Fin.isValue, Fin.coe_ofNat_eq_mod] <;> omega)⟩)
  · obtain rfl : i = 12 := Fin.ext hi
    show extractStridedSlice S144x256 ![0, 3072] W slices_S144x4096_o0_3072_S144x256 (ix2 f e) = _
    pointwise []
    exact congrArg W ((ix2_inj ..).2 ⟨rfl, Fin.ext (by simp only [hj, Fin.isValue, Fin.coe_ofNat_eq_mod] <;> omega)⟩)
  · obtain rfl : i = 13 := Fin.ext hi
    show extractStridedSlice S144x256 ![0, 3328] W slices_S144x4096_o0_3328_S144x256 (ix2 f e) = _
    pointwise []
    exact congrArg W ((ix2_inj ..).2 ⟨rfl, Fin.ext (by simp only [hj, Fin.isValue, Fin.coe_ofNat_eq_mod] <;> omega)⟩)
  · obtain rfl : i = 14 := Fin.ext hi
    show extractStridedSlice S144x256 ![0, 3584] W slices_S144x4096_o0_3584_S144x256 (ix2 f e) = _
    pointwise []
    exact congrArg W ((ix2_inj ..).2 ⟨rfl, Fin.ext (by simp only [hj, Fin.isValue, Fin.coe_ofNat_eq_mod] <;> omega)⟩)
  · obtain rfl : i = 15 := Fin.ext hi
    show extractStridedSlice S144x256 ![0, 3840] W slices_S144x4096_o0_3840_S144x256 (ix2 f e) = _
    pointwise []
    exact congrArg W ((ix2_inj ..).2 ⟨rfl, Fin.ext (by simp only [hj, Fin.isValue, Fin.coe_ofNat_eq_mod] <;> omega)⟩)

theorem mm_channels (L : FVec Ideal S144x256 .f32) (X : FVec Ideal S256x128 .f32) (f : Fin 144) (h : Fin 128) :
    matmul dot_S144x256_S256x128_S144x128_1_0_0_1_n_n none L X (constant (F := Ideal) S144x128 .f32 0x00000000#32)
      (ix2 f h) = ∑ e : Fin 256, L (ix2 f e) * X (ix2 e h) := by
  pointwise []

theorem mm_inverse (L : FVec Ideal S144x2048 .f32) (X : FVec Ideal S144x128 .f32) (r : Fin 2048) (t : Fin 128) :
    matmul dot_S144x2048_S144x128_S2048x128_0_0_1_1_n_n none L X (constant (F := Ideal) S2048x128 .f32 0x00000000#32)
      (ix2 r t) = ∑ f : Fin 144, L (ix2 f r) * X (ix2 f t) := by
  pointwise []

/-- The products of the two transforms at one frequency row, one node and one channel: the first half the real
    parts, the second half the imaginary ones. -/
def prodAt (qq : FVec Ideal S144x256 .f32) (kk : Fin 144 → EReal) (f : Fin 144) (e : Fin 256) : EReal :=
  if h : f.val < 72 then
    qq (ix2 ⟨f.val, by omega⟩ e) * kk ⟨f.val, by omega⟩ + qq (ix2 ⟨72 + f.val, by omega⟩ e) * kk ⟨72 + f.val, by omega⟩
  else
    qq (ix2 ⟨f.val - 72, by omega⟩ e) * kk ⟨f.val, by omega⟩ - qq (ix2 ⟨f.val, by omega⟩ e) * kk ⟨f.val - 72, by omega⟩

/-- The correlation of one node's head at one lag. -/
def corrAt (x3 : FVec Ideal S128x144 .f32) (x4 : FVec Ideal S144x128 .f32) (x5 : FVec Ideal S256x128 .f32)
    (qq : FVec Ideal S144x256 .f32) (Y : Fin 16 → FVec Ideal S1x1x128x256 .f32) (i : Fin 16) (h : Fin 128)
    (t : Fin 128) : EReal :=
  ∑ f : Fin 144, (∑ e : Fin 256, prodAt qq (fun g => kkAt x3 Y g i e) f e * x5 (ix2 e h)) * x4 (ix2 f t)

theorem pair_at (A B : FVec Ideal S72x4096 .f32) (f : Fin 144) (j : Fin 4096) :
    concatenate S144x4096 0 [⟨S72x4096, A⟩, ⟨S72x4096, B⟩] concatenates_S72x4096_S72x4096_S144x4096_d0 (ix2 f j)
      = if h : f.val < 72 then A (ix2 ⟨f.val, h⟩ j) else B (ix2 ⟨f.val - 72, by omega⟩ j) := by
  pointwise []

theorem pay20_at (x3 : FVec Ideal S128x144 .f32) (x4 : FVec Ideal S144x128 .f32) (x5 : FVec Ideal S256x128 .f32)
    (qq : FVec Ideal S144x256 .f32) (Y : Fin 16 → FVec Ideal S1x1x128x256 .f32) (i : Fin 16) (h : Fin 128)
    (t : Fin 128) (r : Fin 2048) (hr : r.val = i.val * 128 + h.val) :
    k0_pay20 (F := Ideal) x4 x5 (k0_pay7 qq) (k0_pay8 qq) (k0_pay17 x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15)) (k0_pay18 x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15))
      (k0_pay19 x3 (k0_pay7 qq) (k0_pay8 qq) (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15)) (ix2 r t) = corrAt x3 x4 x5 qq Y i h t := by
  have h17 := pay17_at x3 Y
  have h18 := pay18_at x3 Y
  unfold k0_pay19
  generalize k0_pay17 (F := Ideal) x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15) = A at h17 ⊢
  generalize k0_pay18 (F := Ideal) x3 (k0_pay9 (Y 0)) (k0_pay10 (Y 1)) (k0_pay11 (Y 2)) (k0_pay12 (Y 3)) (k0_pay13 (Y 4)) (k0_pay14 (Y 5)) (k0_pay15 (Y 6)) (Y 7) (Y 8) (Y 9) (Y 10) (Y 11) (Y 12) (Y 13) (Y 14) (Y 15) = B at h18 ⊢
  refine (mm_inverse (concatenate S144x2048 1 [⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 0⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 1⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 2⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 3⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 4⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 5⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 6⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 7⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 8⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 9⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 10⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 11⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 12⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 13⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 14⟩, ⟨S144x128, (fun k => matmul dot_S144x256_S256x128_S144x128_1_0_0_1_n_n none (slab (concatenate S144x4096 0 [⟨S72x4096, addf (mulf (k0_pay7 qq) A) (mulf (k0_pay8 qq) B)⟩, ⟨S72x4096, subf (mulf (k0_pay7 qq) B) (mulf (k0_pay8 qq) A)⟩] concatenates_S72x4096_S72x4096_S144x4096_d0) k) x5 (constant (F := Ideal) S144x128 .f32 0x00000000#32) : Fin 16 → FVec Ideal S144x128 .f32) 15⟩]
      concatenates_S144x128_S144x128_S144x128_S144x128_S144x128_S144x128_S144x128_S144x128_S144x128_S144x128_S144x128_S144x128_S144x128_S144x128_S144x128_S144x128_S144x2048_d1) x4 r t).trans ?_
  refine Finset.sum_congr rfl fun f _ => congrArg (· * x4 (ix2 f t)) ?_
  refine (cat_144 (fun k => matmul dot_S144x256_S256x128_S144x128_1_0_0_1_n_n none (slab _ k) x5 (constant (F := Ideal) S144x128 .f32 0x00000000#32)) f i h r hr).trans ?_
  refine (mm_channels _ x5 f h).trans ?_
  refine Finset.sum_congr rfl fun e _ => congrArg (· * x5 (ix2 e h)) ?_
  refine (slab_at _ f i e ⟨i.val * 256 + e.val, by omega⟩ rfl).trans ?_
  refine (pair_at _ _ f _).trans ?_
  unfold prodAt
  by_cases hf : f.val < 72
  · rw [dif_pos hf, dif_pos hf, addf_apply, mulf_apply, mulf_apply, pay7_at qq ⟨f.val, hf⟩ i e _ rfl, pay8_at qq ⟨f.val, hf⟩ i e _ rfl,
      h17 ⟨f.val, hf⟩ i e _ rfl, h18 ⟨f.val, hf⟩ i e _ rfl]
    rfl
  · rw [dif_neg hf, dif_neg hf]
    rw [subf_apply, mulf_apply, mulf_apply, pay7_at qq ⟨f.val - 72, by omega⟩ i e _ rfl,
      pay8_at qq ⟨f.val - 72, by omega⟩ i e _ rfl, h17 ⟨f.val - 72, by omega⟩ i e _ rfl, h18 ⟨f.val - 72, by omega⟩ i e _ rfl]
    have hf' : (⟨72 + (f.val - 72), by omega⟩ : Fin 144) = f := Fin.ext (by show 72 + (f.val - 72) = f.val; omega)
    simp only [hf']
    rfl

/-- The lag where a row of correlations is greatest: the first of them, as a word (128 when there is none). -/
def firstMax (r : Fin 128 → EReal) : BitVec 32 :=
  Finset.univ.fold IntOp.minsi (2147483647#32) (fun x : Fin 128 =>
    if r x = Finset.univ.fold max (Ideal.ofBits FTy.f32 4286578688#32) (fun y => r y) then BitVec.ofNat 32 x.val
    else 128#32)

/-- The greatest of a row of correlations. -/
def max1 (r : Fin 128 → EReal) : EReal := Finset.univ.fold max (Ideal.ofBits FTy.f32 4286578688#32) (fun y => r y)

/-- The greatest of a row of correlations, the first place of its maximum left out. -/
def max2 (r : Fin 128 → EReal) : EReal :=
  Finset.univ.fold max (Ideal.ofBits FTy.f32 4286578688#32) (fun x : Fin 128 =>
    Scalar.select (IntOp.cmpi CmpIPredicate.eq (BitVec.ofNat 32 x.val) (firstMax r))
      (Ideal.ofBits FTy.f32 4286578688#32) (r x))

/-- The factor a row of correlations gives: the mean of the sigmoids of its two greatest. -/
def scl (r : Fin 128 → EReal) : EReal :=
  (Ideal.logistic (max1 r) + Ideal.logistic (max2 r)) * Ideal.ofBits FTy.f32 1056964608#32

theorem pay23_at (x4 : FVec Ideal S144x128 .f32) (x5 : FVec Ideal S256x128 .f32) (a b c d e : FVec Ideal S72x4096 .f32)
    (r : Fin 2048) :
    k0_pay23 (F := Ideal) (k0_pay20 x4 x5 a b c d e) (k0_pay21 x4 x5 a b c d e)
      (iota Kind.tc S2048x128 32 [1] iota_S2048x128_d1_w32) (k0_pay22 x4 x5 a b c d e) (ix2 r 0)
      = scl fun t => k0_pay20 (F := Ideal) x4 x5 a b c d e (ix2 r t) := by
  unfold k0_pay22 k0_pay21
  generalize k0_pay20 (F := Ideal) x4 x5 a b c d e = C
  pointwise [k0_pay23, scl, max1, max2, firstMax]

end Cert.KernelIdeal.Own

end
-- ==== Proof.Body.ValD.lean ====
module

public import proofs.«01_k».proof.Proof.Body.Vals
public import proofs.«01_k».proof.Proof.Body.Arith
public import Idealize.ShloMosaic.Lib.Pipeline.ValueKit
public import Idealize.ShloMosaic.Lib.Pointwise

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- One node's keys, cut out of the block of sixteen. -/
def nodeKeys (x1 : FVec Ideal S1x16x128x256 .f32) (k : Fin 16) : FVec Ideal S1x1x128x256 .f32 :=
  fun j => x1 (ix4 0 k (j 2) (j 3))

theorem ld_keys (X : FVec Ideal S1x16x128x256 .f32) (k : Fin 16) (n : ℕ) (hn : k.val = n)
    (h : ∀ a, (![0, n, 0, 0] : Fin 4 → ℕ) a + (![1, 1, 128, 256] : Fin 4 → ℕ) a ≤ S1x16x128x256.size a) :
    @View.ld (Elt Ideal) S1x16x128x256 EltTy.f32 X (@Rect.unit S1x16x128x256 ![0, n, 0, 0] ![1, 1, 128, 256] h)
      = nodeKeys X k := by
  subst hn
  funext j
  pointwise [nodeKeys]

/-- The factor of one head of one node: what its correlations give. -/
def headScl (x1 : FVec Ideal S1x16x128x256 .f32) (x3 : FVec Ideal S128x144 .f32) (x4 : FVec Ideal S144x128 .f32)
    (x5 : FVec Ideal S256x128 .f32) (qq : FVec Ideal S144x256 .f32) (i : Fin 16) (h : Fin 128) : EReal :=
  scl fun t => corrAt x3 x4 x5 qq (nodeKeys x1) i h t

theorem headScl_eq (x1 : FVec Ideal S1x16x128x256 .f32) (x3 : FVec Ideal S128x144 .f32) (x4 : FVec Ideal S144x128 .f32)
    (x5 : FVec Ideal S256x128 .f32) (qq : FVec Ideal S144x256 .f32) (i : Fin 16) (h : Fin 128) (r : Fin 2048)
    (hr : r.val = i.val * 128 + h.val) :
    k0_pay23 (F := Ideal)
      (k0_pay20 x4 x5 (k0_pay7 qq) (k0_pay8 qq) (k0_pay17 x3 (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)) (k0_pay18 x3 (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)) (k0_pay19 x3 (k0_pay7 qq) (k0_pay8 qq) (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)))
      (k0_pay21 x4 x5 (k0_pay7 qq) (k0_pay8 qq) (k0_pay17 x3 (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)) (k0_pay18 x3 (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)) (k0_pay19 x3 (k0_pay7 qq) (k0_pay8 qq) (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)))
      (iota Kind.tc S2048x128 32 [1] iota_S2048x128_d1_w32)
      (k0_pay22 x4 x5 (k0_pay7 qq) (k0_pay8 qq) (k0_pay17 x3 (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)) (k0_pay18 x3 (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)) (k0_pay19 x3 (k0_pay7 qq) (k0_pay8 qq) (k0_pay9 (nodeKeys x1 0)) (k0_pay10 (nodeKeys x1 1)) (k0_pay11 (nodeKeys x1 2)) (k0_pay12 (nodeKeys x1 3)) (k0_pay13 (nodeKeys x1 4)) (k0_pay14 (nodeKeys x1 5)) (k0_pay15 (nodeKeys x1 6)) (nodeKeys x1 7) (nodeKeys x1 8) (nodeKeys x1 9) (nodeKeys x1 10) (nodeKeys x1 11) (nodeKeys x1 12) (nodeKeys x1 13) (nodeKeys x1 14) (nodeKeys x1 15)))
      (ix2 r 0) = headScl x1 x3 x4 x5 qq i h :=
  (pay23_at x4 x5 _ _ _ _ _ r).trans (congrArg scl (funext fun t => pay20_at x3 x4 x5 qq (nodeKeys x1) i h t r hr))

variable (c : Dev nD) (i : grid0.Coords) (arg3 : Memref sig .tc .vmem S1x16x128x256 .f32) (harg3 : arg3.IsWhole) (arg4 : Memref sig .tc .vmem S1x16x128x256 .f32) (harg4 : arg4.IsWhole) (arg5 : Memref sig .tc .vmem S1x16x1024x32 .f32) (harg5 : arg5.IsWhole)
  (arg6 : Memref sig .tc .vmem S128x144 .f32) (harg6 : arg6.IsWhole) (arg7 : Memref sig .tc .vmem S144x128 .f32) (harg7 : arg7.IsWhole) (arg8 : Memref sig .tc .vmem S256x128 .f32) (harg8 : arg8.IsWhole) (arg9 : Memref sig .tc .vmem S1x16x1024x32 .f32) (harg9 : arg9.IsWhole)
  (arg10 : Memref sig .tc .vmem S128x256 .f32) (harg10 : arg10.IsWhole) (arg11 : Memref sig .tc .vmem S144x256 .f32) (harg11 : arg11.IsWhole)

theorem readD (hc0 : ¬cond0_0 i) (hc4 : cond0_4 i) (x0 : FVec Ideal S1x16x128x256 .f32) (x1 : FVec Ideal S1x16x128x256 .f32) (x2 : FVec Ideal S1x16x1024x32 .f32) (x3 : FVec Ideal S128x144 .f32) (x4 : FVec Ideal S144x128 .f32) (x5 : FVec Ideal S256x128 .f32) (xs1 : FVec Ideal S144x256 .f32) (f : arg9.view.ty.Contents (Elt Ideal)) (y : S1x16x1024x32.Idx) :
    arg9.view.read (Elt Ideal) (arg9.view.writes (Elt Ideal) f (runD (F := Ideal) c i arg3 harg3 arg4 harg4 arg5 harg5 arg6 harg6 arg7 harg7 arg8 harg8 arg9 harg9 arg10 harg10 arg11 harg11 hc0 hc4 x0 x1 x2 x3 x4 x5 xs1).1) y
      = x2 y * headScl x1 x3 x4 x5 xs1 (y 1) ⟨(y 2).val % 8, by omega⟩ := by
  have hS := headScl_eq x1 x3 x4 x5 xs1
  rw [View.read_writes_eq_canon _ _ _ (fun y => View.cover_of_tiledL (runD (F := Ideal) c i arg3 harg3 arg4 harg4 arg5 harg5 arg6 harg6 arg7 harg7 arg8 harg8 arg9 harg9 arg10 harg10 arg11 harg11 hc0 hc4 x0 x1 x2 x3 x4 x5 xs1).1 S1x1x1024x32.size (by sl_kernel_rfl) y)]
  frame_out
  rw [ld_keys x1 0 0 rfl inb_S1x16x128x256_S1x1x128x256_0_0_0_0,
    ld_keys x1 1 1 rfl inb_S1x16x128x256_S1x1x128x256_0_1_0_0,
    ld_keys x1 2 2 rfl inb_S1x16x128x256_S1x1x128x256_0_2_0_0,
    ld_keys x1 3 3 rfl inb_S1x16x128x256_S1x1x128x256_0_3_0_0,
    ld_keys x1 4 4 rfl inb_S1x16x128x256_S1x1x128x256_0_4_0_0,
    ld_keys x1 5 5 rfl inb_S1x16x128x256_S1x1x128x256_0_5_0_0,
    ld_keys x1 6 6 rfl inb_S1x16x128x256_S1x1x128x256_0_6_0_0,
    ld_keys x1 7 7 rfl inb_S1x16x128x256_S1x1x128x256_0_7_0_0,
    ld_keys x1 8 8 rfl inb_S1x16x128x256_S1x1x128x256_0_8_0_0,
    ld_keys x1 9 9 rfl inb_S1x16x128x256_S1x1x128x256_0_9_0_0,
    ld_keys x1 10 10 rfl inb_S1x16x128x256_S1x1x128x256_0_10_0_0,
    ld_keys x1 11 11 rfl inb_S1x16x128x256_S1x1x128x256_0_11_0_0,
    ld_keys x1 12 12 rfl inb_S1x16x128x256_S1x1x128x256_0_12_0_0,
    ld_keys x1 13 13 rfl inb_S1x16x128x256_S1x1x128x256_0_13_0_0,
    ld_keys x1 14 14 rfl inb_S1x16x128x256_S1x1x128x256_0_14_0_0,
    ld_keys x1 15 15 rfl inb_S1x16x128x256_S1x1x128x256_0_15_0_0]
  unfold k0_pay24 k0_pay25
  generalize k0_pay23 (F := Ideal) _ _ _ _ = S at hS ⊢
  canon_tiles x h
  all_goals
    idx_vars y
    idx_vars x
    pointwise [k0_pay3, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    refine congrArg₂ (· * ·) (congrArg _ ?_) (hS _ _ _ ?_)
    · idx_ext
      all_goals omega
    · show _ = y1.val * 128 + y2.val % 8
      dsimp only
      omega

end Cert.KernelIdeal.Own

end
-- ==== Proof.Body.Run.lean ====
module

public import proofs.«01_k».proof.Proof.Body.ValD
public import Idealize.ShloMosaic.Lib.Claim

@[expose] public section

-- membership in a rectangle of these extents recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! # What the pipeline carries and what it leaves -/

/-- The sum of the queries of the block at a point. -/
def blkSum (c : Dev nD) (n : ℕ) : FVec Ideal S128x256 .f32 :=
  if h : n < cfg0.N then sumQ (iblk m c 0 ⟨n, h⟩) else fun _ => 0

/-- The accumulator after a point of the first pass: started afresh at each batch. -/
def accAt (c : Dev nD) : ℕ → FVec Ideal S128x256 .f32
  | 0 => blkSum m c 0
  | n + 1 => if (n + 1) % 8 = 0 then blkSum m c (n + 1) else fun j => accAt c n j + blkSum m c (n + 1) j

/-- The transform of the mean query of the batch a point belongs to. -/
def qqAt (c : Dev nD) (n : ℕ) : FVec Ideal S144x256 .f32 :=
  if h : 8 * (n / 8) + 3 < cfg0.N then qqOf (iblk m c 3 ⟨8 * (n / 8) + 3, h⟩) (accAt m c (8 * (n / 8) + 3)) else fun _ => 0

theorem accAt_A (c : Dev nD) (t : Fin cfg0.N) (h0 : t.val / 4 % 2 = 0) (h1 : t.val % 4 = 0) :
    accAt m c t.val = sumQ (iblk m c 0 t) := by
  obtain ⟨n, hn⟩ := t
  cases n with
  | zero => unfold accAt blkSum; rw [dif_pos hn]
  | succ n =>
    unfold accAt blkSum
    rw [if_pos (by simp only at h0 h1; omega), dif_pos hn]

theorem accAt_BC (c : Dev nD) (t : Fin cfg0.N) (h0 : t.val / 4 % 2 = 0) (h1 : ¬t.val % 4 = 0) :
    accAt m c t.val = fun j => accAt m c (t.val - 1) j + sumQ (iblk m c 0 t) j := by
  obtain ⟨n, hn⟩ := t
  cases n with
  | zero => exact absurd rfl h1
  | succ n =>
    rw [accAt, if_neg (by simp only at h0 h1; omega)]
    unfold blkSum
    rw [dif_pos hn]
    rfl

theorem qqAt_C (c : Dev nD) (t : Fin cfg0.N) (h0 : t.val / 4 % 2 = 0) (h3 : t.val % 4 = 3) :
    qqAt m c t.val = qqOf (iblk m c 3 t) (fun j => accAt m c (t.val - 1) j + sumQ (iblk m c 0 t) j) := by
  have e : 8 * (t.val / 8) + 3 = t.val := by omega
  unfold qqAt
  have hb : 8 * (t.val / 8) + 3 < cfg0.N := by rw [e]; exact t.isLt
  rw [← accAt_BC m c t h0 (by omega), dif_pos hb, show (⟨8 * (t.val / 8) + 3, hb⟩ : Fin cfg0.N) = t from Fin.ext e, e]

theorem qqAt_D (c : Dev nD) (t : Fin cfg0.N) (h0 : ¬t.val / 4 % 2 = 0) :
    qqAt m c t.val = qqAt m c (t.val - 1) := by
  have e : (t.val - 1) / 8 = t.val / 8 := by omega
  unfold qqAt
  rw [e]

/-- What the second pass leaves in the output's block at a point. -/
def outAt (c : Dev nD) (t : Fin cfg0.N) : FVec Ideal S1x16x1024x32 .f32 := fun y =>
  (show FVec Ideal S1x16x1024x32 .f32 from iblk m c 2 t) y
    * headScl (iblk m c 1 t) (iblk m c 3 t) (iblk m c 4 t) (iblk m c 5 t) (qqAt m c t.val) (y 1) ⟨(y 2).val % 8, by omega⟩

/-! ## The invariant -/

/-- Before the first point the scratch buffers at anything; after point `n` the accumulator at the sum so far while
    the first pass lasts, and the mean query's transform once it has been computed. -/
def PhiS (c : Dev nD) : (n : ℕ) → n ≤ cfg0.N → sProp 𝕄
  | 0, _ => Pipeline.ΦA spec0 c
  | n + 1, _ => iprop(iprop((∃ d, iprop(⌜n % 8 < 4 → d = accAt m c n⌝ ∗ owns (c : Thread nD τ) scM0_0 fullShare d)) ∗ (∃ d, iprop(⌜3 ≤ n % 8 → d = qqAt m c n⌝ ∗ owns (c : Thread nD τ) scM0_1 fullShare d))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, iprop(⌜n % 8 < 4 → d = accAt m c n⌝ ∗ owns (c : Thread nD τ) scM0_0 fullShare d)) ∗ (∃ d, iprop(⌜3 ≤ n % 8 → d = qqAt m c n⌝ ∗ owns (c : Thread nD τ) scM0_1 fullShare d))) ∗ (∃ r, prngReg c r)) := rfl

theorem PhiS_pos (c : Dev nD) (n : ℕ) (h : n ≤ cfg0.N) (hz : n ≠ 0) :
    PhiS m c n h = iprop(iprop((∃ d, iprop(⌜(n - 1) % 8 < 4 → d = accAt m c (n - 1)⌝ ∗ owns (c : Thread nD τ) scM0_0 fullShare d)) ∗ (∃ d, iprop(⌜3 ≤ (n - 1) % 8 → d = qqAt m c (n - 1)⌝ ∗ owns (c : Thread nD τ) scM0_1 fullShare d))) ∗ (∃ r, prngReg c r)) := by
  cases n with
  | zero => exact absurd rfl hz
  | succ n => rfl

/-! ## The pipeline's proof data -/

/-- The arrays as the region finds them; after the body at a point each input's block in place and the output's block
    at `outAt`; the invariant `PhiS`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The output's window: left alone throughout the first pass -/

theorem idle6 (t : Fin cfg0.N) (h0 : t.val / 4 % 2 = 0) : cfg0.idle 6 (cfg0.grid.coords t) = true := by
  have h : ¬ k0_cond5 (cfg0.grid.coords t) = 1#1 := fun h => by have := (hcond0_4 t).mp h; omega
  show (!(k0_cond5 (cfg0.grid.coords t) == 1#1)) = true
  rw [beq_eq_false_iff_ne.mpr h]; rfl

theorem live6 (t : Fin cfg0.N) (h4 : t.val / 4 % 2 = 1) : cfg0.idle 6 (cfg0.grid.coords t) = false := by
  have h : k0_cond5 (cfg0.grid.coords t) = 1#1 := (hcond0_4 t).mpr h4
  show (!(k0_cond5 (cfg0.grid.coords t) == 1#1)) = false
  rw [h]; rfl

theorem flush6 : ∀ t : Fin cfg0.N, t.val / 4 % 2 = 0 → (cfg0.win 6).flush t = false :=
  (by decide +kernel : ∀ t : Fin grid0.N, t.val / 4 % 2 = 0 → (cfg0.win 6).flush t = false)

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12800000 in
/-- The body at any point: the closed forms of the branch conditions say which of the four cases the point is in; the
    case's run applies; the invariant hands over the scratch and takes it back at this point's contents. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val / 4 % 2 = 0
  · have h4 : ¬t.val / 4 % 2 = 1 := by omega
    rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [show (dats m 0 c).leavesExact 3 t = owns (c : Thread nD τ) (ms0_3 t) fullShare ((dats m 0 c).after 3 t) from by
        unfold Dat.leavesExact; rw [liveAt0_3 t], after0_3]
    rw [show (dats m 0 c).leavesExact 4 t = owns (c : Thread nD τ) (ms0_4 t) fullShare ((dats m 0 c).after 4 t) from by
        unfold Dat.leavesExact; rw [liveAt0_4 t], after0_4]
    rw [show (dats m 0 c).leavesExact 5 t = owns (c : Thread nD τ) (ms0_5 t) fullShare ((dats m 0 c).after 5 t) from by
        unfold Dat.leavesExact; rw [liveAt0_5 t], after0_5]
    rw [(dats m 0 c).leavesExact_idle 6 t (idle6 t h0) (flush6 t h0)]
    by_cases h1 : t.val % 4 = 0
    · have h2 : ¬1 ≤ t.val % 4 := by omega
      have h3 : ¬t.val % 4 = 3 := by omega
      by_cases hz : t.val = 0
      · rw [PhiS_castSucc m c t, PhiS_zero m c _ _ hz, PhiA0_eq]
        iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runA (F := Ideal) c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%e1, HS1⟩⟩
        isplitl [HS0 HS1 Hg]
        · isplitl [HS0 HS1]
          · isplitl [HS0]
            · iexists (accAt m c t.val); isplitr
              · ipureintro; exact fun _ => rfl
              · unfold owns; iexists _; isplitr
                swap; · iexact HS0
                ipureintro; rw [accAt_A m c t h0 h1]; exact readA c _ _ _ _ _ _ _ _ _ _ _ _ _ _ _ _ _ _ _ _ _ _ _ _ _ _ _ _ _ _ _ _
            · iexists e1; isplitr
              · ipureintro; exact fun h => absurd h (by omega)
              · iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runA (F := Ideal) c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%e1, HS1⟩⟩
        isplitl [HS0 HS1 Hg]
        · isplitl [HS0 HS1]
          · isplitl [HS0]
            · iexists (accAt m c t.val); isplitr
              · ipureintro; exact fun _ => rfl
              · unfold owns; iexists _; isplitr
                swap; · iexact HS0
                ipureintro; rw [accAt_A m c t h0 h1]; exact readA c _ _ _ _ _ _ _ _ _ _ _ _ _ _ _ _ _ _ _ _ _ _ _ _ _ _ _ _ _ _ _ _
            · iexists e1; isplitr
              · ipureintro; exact fun h => absurd h (by omega)
              · iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have h2 : 1 ≤ t.val % 4 := by omega
      have hz : t.val ≠ 0 := by omega
      by_cases h3 : t.val % 4 = 3
      · rw [PhiS_castSucc m c t, PhiS_pos m c _ _ hz]
        iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := hs0 (by omega)
        iapply ((runC (F := Ideal) c (grid0.coords t) _ _ _ _ _ _ _ _ _ _ _ _ _ _ _ _ _ _ ((hcond0_0 t).mpr h0) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · iexists (accAt m c t.val); isplitr
              · ipureintro; exact fun _ => rfl
              · unfold owns; iexists _; isplitr
                swap; · iexact HS0
                ipureintro; rw [accAt_BC m c t h0 h1]; exact readC0 c _ _ _ _ _ _ _ _ _ _ _ _ _ _ _ _ _ _ _ _ _ _ _ _ _ _ _ _ _ _ _ _ _
            · iexists (qqAt m c t.val); isplitr
              · ipureintro; exact fun _ => rfl
              · unfold owns; iexists _; isplitr
                swap; · iexact HS1
                ipureintro; rw [qqAt_C m c t h0 h3]; exact readC1 c _ _ _ _ _ _ _ _ _ _ _ _ _ _ _ _ _ _ _ _ _ _ _ _ _ _ _ _ _ _ _ _ _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := hs0 (by omega)
        iapply ((runB (F := Ideal) c (grid0.coords t) _ _ _ _ _ _ _ _ _ _ _ _ _ _ _ _ _ _ ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexists _; iexact HS1
        iintro ⟨H0, H1, H2, H3, H4, H5, H6, ⟨%es0, HS0⟩, ⟨%e1, HS1⟩⟩
        isplitl [HS0 HS1 Hg]
        · isplitl [HS0 HS1]
          · isplitl [HS0]
            · iexists (accAt m c t.val); isplitr
              · ipureintro; exact fun _ => rfl
              · unfold owns; iexists _; isplitr
                swap; · iexact HS0
                ipureintro; rw [accAt_BC m c t h0 h1]; exact readB c _ _ _ _ _ _ _ _ _ _ _ _ _ _ _ _ _ _ _ _ _ _ _ _ _ _ _ _ _ _ _ _ _
            · iexists e1; isplitr
              · ipureintro; exact fun h => absurd h (by omega)
              · iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have h4 : t.val / 4 % 2 = 1 := by omega
    have hz : t.val ≠ 0 := by omega
    rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [show (dats m 0 c).leavesExact 3 t = owns (c : Thread nD τ) (ms0_3 t) fullShare ((dats m 0 c).after 3 t) from by
        unfold Dat.leavesExact; rw [liveAt0_3 t], after0_3]
    rw [show (dats m 0 c).leavesExact 4 t = owns (c : Thread nD τ) (ms0_4 t) fullShare ((dats m 0 c).after 4 t) from by
        unfold Dat.leavesExact; rw [liveAt0_4 t], after0_4]
    rw [show (dats m 0 c).leavesExact 5 t = owns (c : Thread nD τ) (ms0_5 t) fullShare ((dats m 0 c).after 5 t) from by
        unfold Dat.leavesExact; rw [liveAt0_5 t], after0_5]
    rw [show (dats m 0 c).leavesExact 6 t = owns (c : Thread nD τ) (ms0_6 t) fullShare ((dats m 0 c).after 6 t) from by
        unfold Dat.leavesExact; rw [live6 t h4], after0_6]
    rw [PhiS_castSucc m c t, PhiS_pos m c _ _ hz]
    iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hs1 (by omega)
    iapply ((runD (F := Ideal) c (grid0.coords t) _ _ _ _ _ _ _ _ _ _ _ _ _ _ _ _ _ _ (fun h => h0 ((hcond0_0 t).mp h)) ((hcond0_4 t).mpr h4) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexact HS1
    iintro ⟨H0, H1, H2, H3, H4, H5, ⟨%es6, H6⟩, ⟨%e0, HS0⟩, HS1⟩
    isplitl [HS0 HS1 Hg]
    · isplitl [HS0 HS1]
      · isplitl [HS0]
        · iexists e0; isplitr
          · ipureintro; exact fun h => absurd h (by omega)
          · iexact HS0
        · iexists (qqAt m c t.val); isplitr
          · ipureintro; exact fun _ => rfl
          · rw [qqAt_D m c t h0]; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; funext y; rw [outAt, qqAt_D m c t h0]; exact readD c _ _ _ _ _ _ _ _ _ _ _ _ _ _ _ _ _ _ _ _ _ _ _ _ _ _ _ _ _ y

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%s0, -, HS0⟩, ⟨%s1, -, HS1⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

-- the library theorem's implicit arguments are found by unifying its conclusion with this one, which takes unfolding
-- plain definitions in a metavariable's type
set_option backward.isDefEq.respectTransparency.types false in
set_option maxHeartbeats 800000 in
/-- The launch: every fair execution ends with the arrays as the proof data name them, and every counter at zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every counter at zero. -/
theorem frame_all : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.Orig.Run.lean ====
module

public import proofs.«01_k».proof.Proof.Orig.RunD
public import Idealize.ShloMosaic.Lib.Claim
public import Idealize.ShloMosaic.Lib.Pipeline.FrameBody

@[expose] public section

-- membership in a rectangle of these extents recurses once per coordinate of the long axes
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the pipeline carries and what it leaves -/

/-- The sum left in the accumulator by the first point of a pass. -/
def valA (c : Dev nD) (t : Fin cfg0.N) (h0 : t.val / 4 % 2 = 0) (h1 : t.val % 4 = 0) : Vec F S128x256 .f32 :=
  View.canon (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => (by omega : ¬1 ≤ t.val % 4) ((hcond0_2 t).mp h)) (fun h => (by omega : ¬t.val % 4 = 3) ((hcond0_3 t).mp h)) (fun h => (by omega : ¬t.val / 4 % 2 = 1) ((hcond0_4 t).mp h)) (iblk m c 0 t) (iblk m c 1 t) (iblk m c 2 t) (iblk m c 3 t) (iblk m c 4 t) (iblk m c 5 t)).1

/-- The sum left by a middle point, from the sum so far. -/
def valB (c : Dev nD) (t : Fin cfg0.N) (h0 : t.val / 4 % 2 = 0) (h1 : ¬t.val % 4 = 0) (h3 : ¬t.val % 4 = 3) (a : Vec F S128x256 .f32) : Vec F S128x256 .f32 :=
  View.canon (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) ((hcond0_2 t).mpr (by omega)) (fun h => h3 ((hcond0_3 t).mp h)) (fun h => (by omega : ¬t.val / 4 % 2 = 1) ((hcond0_4 t).mp h)) (iblk m c 0 t) (iblk m c 1 t) (iblk m c 2 t) (iblk m c 3 t) (iblk m c 4 t) (iblk m c 5 t) a).1

/-- The sum left by the last point of the first pass, from the sum so far, -/
def valC0 (c : Dev nD) (t : Fin cfg0.N) (h0 : t.val / 4 % 2 = 0) (h3 : t.val % 4 = 3) (a : Vec F S128x256 .f32) : Vec F S128x256 .f32 :=
  View.canon (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => (by omega : ¬t.val % 4 = 0) ((hcond0_1 t).mp h)) ((hcond0_2 t).mpr (by omega)) ((hcond0_3 t).mpr h3) (fun h => (by omega : ¬t.val / 4 % 2 = 1) ((hcond0_4 t).mp h)) (iblk m c 0 t) (iblk m c 1 t) (iblk m c 2 t) (iblk m c 3 t) (iblk m c 4 t) (iblk m c 5 t) a).1.1

/-- and the transform of the mean query that it leaves. -/
def valC1 (c : Dev nD) (t : Fin cfg0.N) (h0 : t.val / 4 % 2 = 0) (h3 : t.val % 4 = 3) (a : Vec F S128x256 .f32) : Vec F S144x256 .f32 :=
  View.canon (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => (by omega : ¬t.val % 4 = 0) ((hcond0_1 t).mp h)) ((hcond0_2 t).mpr (by omega)) ((hcond0_3 t).mpr h3) (fun h => (by omega : ¬t.val / 4 % 2 = 1) ((hcond0_4 t).mp h)) (iblk m c 0 t) (iblk m c 1 t) (iblk m c 2 t) (iblk m c 3 t) (iblk m c 4 t) (iblk m c 5 t) a).1.2

/-- The block that a point of the second pass leaves, from the mean query's transform. -/
def valD (c : Dev nD) (t : Fin cfg0.N) (h4 : t.val / 4 % 2 = 1) (a : Vec F S144x256 .f32) : Vec F S1x16x1024x32 .f32 :=
  View.canon (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => (by omega : ¬t.val / 4 % 2 = 0) ((hcond0_0 t).mp h)) ((hcond0_4 t).mpr h4) (iblk m c 0 t) (iblk m c 1 t) (iblk m c 2 t) (iblk m c 3 t) (iblk m c 4 t) (iblk m c 5 t) a).1

/-- The accumulator after a point of the first pass: started afresh at each batch. -/
def accAt (c : Dev nD) : ℕ → Vec F S128x256 .f32
  | 0 => valA m c ⟨0, by decide⟩ (by decide) (by decide)
  | n + 1 => if h : n + 1 < cfg0.N then
      if h0 : (n + 1) / 4 % 2 = 0 then
        if h1 : (n + 1) % 4 = 0 then valA m c ⟨n + 1, h⟩ h0 h1
        else if h3 : (n + 1) % 4 = 3 then valC0 m c ⟨n + 1, h⟩ h0 h3 (accAt c n)
        else valB m c ⟨n + 1, h⟩ h0 h1 h3 (accAt c n)
      else View.canon []
    else View.canon []

/-- The transform of the mean query of the batch a point belongs to. -/
def qqAt (c : Dev nD) (n : ℕ) : Vec F S144x256 .f32 :=
  if h : 8 * (n / 8) + 3 < cfg0.N then
    valC1 m c ⟨8 * (n / 8) + 3, h⟩ (by dsimp only; omega) (by dsimp only; omega) (accAt m c (8 * (n / 8) + 3 - 1))
  else View.canon []

theorem accAt_A (c : Dev nD) (t : Fin cfg0.N) (h0 : t.val / 4 % 2 = 0) (h1 : t.val % 4 = 0) :
    accAt m c t.val = valA m c t h0 h1 := by
  obtain ⟨n, hn⟩ := t
  cases n with
  | zero => rfl
  | succ n => rw [accAt, dif_pos hn, dif_pos h0, dif_pos h1]

theorem accAt_B (c : Dev nD) (t : Fin cfg0.N) (h0 : t.val / 4 % 2 = 0) (h1 : ¬t.val % 4 = 0) (h3 : ¬t.val % 4 = 3) :
    accAt m c t.val = valB m c t h0 h1 h3 (accAt m c (t.val - 1)) := by
  obtain ⟨n, hn⟩ := t
  cases n with
  | zero => exact absurd rfl h1
  | succ n => rw [accAt, dif_pos hn, dif_pos h0, dif_neg h1, dif_neg h3]; rfl

theorem accAt_C (c : Dev nD) (t : Fin cfg0.N) (h0 : t.val / 4 % 2 = 0) (h1 : ¬t.val % 4 = 0) (h3 : t.val % 4 = 3) :
    accAt m c t.val = valC0 m c t h0 h3 (accAt m c (t.val - 1)) := by
  obtain ⟨n, hn⟩ := t
  cases n with
  | zero => exact absurd rfl h1
  | succ n => rw [accAt, dif_pos hn, dif_pos h0, dif_neg h1, dif_pos h3]; rfl

theorem valC1_congr (c : Dev nD) (t t' : Fin cfg0.N) (e : t' = t) (h0 : t'.val / 4 % 2 = 0) (h3 : t'.val % 4 = 3)
    (h0' : t.val / 4 % 2 = 0) (h3' : t.val % 4 = 3) : valC1 m c t' h0 h3 (accAt m c (t'.val - 1)) = valC1 m c t h0' h3' (accAt m c (t.val - 1)) := by
  subst e; rfl

theorem qqAt_C (c : Dev nD) (t : Fin cfg0.N) (h0 : t.val / 4 % 2 = 0) (h3 : t.val % 4 = 3) :
    qqAt m c t.val = valC1 m c t h0 h3 (accAt m c (t.val - 1)) := by
  have e : 8 * (t.val / 8) + 3 = t.val := by omega
  have hb : 8 * (t.val / 8) + 3 < cfg0.N := by rw [e]; exact t.isLt
  unfold qqAt
  rw [dif_pos hb]
  exact valC1_congr m c t ⟨_, hb⟩ (Fin.ext e) _ _ h0 h3

theorem qqAt_D (c : Dev nD) (t : Fin cfg0.N) (h0 : ¬t.val / 4 % 2 = 0) :
    qqAt m c t.val = qqAt m c (t.val - 1) := by
  have e : (t.val - 1) / 8 = t.val / 8 := by omega
  unfold qqAt
  rw [dif_pos (show 8 * (t.val / 8) + 3 < cfg0.N by have := lt_of_lt_of_eq t.isLt (show cfg0.N = 32 from N_0); exact lt_of_lt_of_eq (b := 32) (by omega) (show (32 : ℕ) = cfg0.N from N_0.symm)),
    dif_pos (show 8 * ((t.val - 1) / 8) + 3 < cfg0.N by rw [e]; have := lt_of_lt_of_eq t.isLt (show cfg0.N = 32 from N_0); exact lt_of_lt_of_eq (b := 32) (by omega) (show (32 : ℕ) = cfg0.N from N_0.symm))]
  refine valC1_congr m c _ _ (Fin.ext ?_) _ _ _ _
  simp only [e]

/-- What the second pass leaves in the output's block at a point. -/
def outAt (c : Dev nD) (t : Fin cfg0.N) : Vec F S1x16x1024x32 .f32 :=
  if h4 : t.val / 4 % 2 = 1 then valD m c t h4 (qqAt m c t.val) else View.canon []

/-! ## The invariant -/

/-- Before the first point the scratch buffers at anything; after point `n` the accumulator at the sum so far while
    the first pass lasts, and the mean query's transform once it has been computed. -/
def PhiS (c : Dev nD) : (n : ℕ) → n ≤ cfg0.N → sProp 𝕄
  | 0, _ => Pipeline.ΦA spec0 c
  | n + 1, _ => iprop(iprop((∃ d, iprop(⌜n % 8 < 4 → d = accAt m c n⌝ ∗ owns (c : Thread nD τ) scM0_0 fullShare d)) ∗ (∃ d, iprop(⌜3 ≤ n % 8 → d = qqAt m c n⌝ ∗ owns (c : Thread nD τ) scM0_1 fullShare d))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, iprop(⌜n % 8 < 4 → d = accAt m c n⌝ ∗ owns (c : Thread nD τ) scM0_0 fullShare d)) ∗ (∃ d, iprop(⌜3 ≤ n % 8 → d = qqAt m c n⌝ ∗ owns (c : Thread nD τ) scM0_1 fullShare d))) ∗ (∃ r, prngReg c r)) := rfl

theorem PhiS_pos (c : Dev nD) (n : ℕ) (h : n ≤ cfg0.N) (hz : n ≠ 0) :
    PhiS m c n h = iprop(iprop((∃ d, iprop(⌜(n - 1) % 8 < 4 → d = accAt m c (n - 1)⌝ ∗ owns (c : Thread nD τ) scM0_0 fullShare d)) ∗ (∃ d, iprop(⌜3 ≤ (n - 1) % 8 → d = qqAt m c (n - 1)⌝ ∗ owns (c : Thread nD τ) scM0_1 fullShare d))) ∗ (∃ r, prngReg c r)) := by
  cases n with
  | zero => exact absurd rfl hz
  | succ n => rfl

/-! ## The pipeline's proof data -/

/-- The arrays as the region finds them; after the body at a point each input's block in place and the output's block
    at `outAt`; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The output's window: left alone throughout the first pass -/

theorem idle6 (t : Fin cfg0.N) (h0 : t.val / 4 % 2 = 0) : cfg0.idle 6 (cfg0.grid.coords t) = true := by
  have h : ¬ k0_cond5 (cfg0.grid.coords t) = 1#1 := fun h => by have := (hcond0_4 t).mp h; omega
  show (!(k0_cond5 (cfg0.grid.coords t) == 1#1)) = true
  rw [beq_eq_false_iff_ne.mpr h]; rfl

theorem live6 (t : Fin cfg0.N) (h4 : t.val / 4 % 2 = 1) : cfg0.idle 6 (cfg0.grid.coords t) = false := by
  have h : k0_cond5 (cfg0.grid.coords t) = 1#1 := (hcond0_4 t).mpr h4
  show (!(k0_cond5 (cfg0.grid.coords t) == 1#1)) = false
  rw [h]; rfl

theorem flush6 : ∀ t : Fin cfg0.N, t.val / 4 % 2 = 0 → (cfg0.win 6).flush t = false :=
  (by decide +kernel : ∀ t : Fin grid0.N, t.val / 4 % 2 = 0 → (cfg0.win 6).flush t = false)

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12800000 in
/-- The body at any point: the closed forms of the branch conditions say which of the four cases the point is in; the
    case's run applies; the invariant hands over the scratch and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val / 4 % 2 = 0
  · have h4 : ¬t.val / 4 % 2 = 1 := by omega
    rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [show (dats m 0 c).leavesExact 3 t = owns (c : Thread nD τ) (ms0_3 t) fullShare ((dats m 0 c).after 3 t) from by
        unfold Dat.leavesExact; rw [liveAt0_3 t], after0_3]
    rw [show (dats m 0 c).leavesExact 4 t = owns (c : Thread nD τ) (ms0_4 t) fullShare ((dats m 0 c).after 4 t) from by
        unfold Dat.leavesExact; rw [liveAt0_4 t], after0_4]
    rw [show (dats m 0 c).leavesExact 5 t = owns (c : Thread nD τ) (ms0_5 t) fullShare ((dats m 0 c).after 5 t) from by
        unfold Dat.leavesExact; rw [liveAt0_5 t], after0_5]
    rw [(dats m 0 c).leavesExact_idle 6 t (idle6 t h0) (flush6 t h0)]
    by_cases h1 : t.val % 4 = 0
    · have h2 : ¬1 ≤ t.val % 4 := by omega
      have h3 : ¬t.val % 4 = 3 := by omega
      by_cases hz : t.val = 0
      · rw [PhiS_castSucc m c t, PhiS_zero m c _ _ hz, PhiA0_eq]
        iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runA (F := F) c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%e1, HS1⟩⟩
        isplitl [HS0 HS1 Hg]
        · isplitl [HS0 HS1]
          · isplitl [HS0]
            · iexists (accAt m c t.val); isplitr
              · ipureintro; exact fun _ => rfl
              · unfold owns; iexists _; isplitr
                swap; · iexact HS0
                ipureintro; rw [accAt_A m c t h0 h1]; exact View.read_writes_eq_canon _ _ _ (fun y => View.cover_of_tiledL _ S128x256.size (by sl_kernel_rfl) y)
            · iexists e1; isplitr
              · ipureintro; exact fun h => absurd h (by omega)
              · iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runA (F := F) c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%e1, HS1⟩⟩
        isplitl [HS0 HS1 Hg]
        · isplitl [HS0 HS1]
          · isplitl [HS0]
            · iexists (accAt m c t.val); isplitr
              · ipureintro; exact fun _ => rfl
              · unfold owns; iexists _; isplitr
                swap; · iexact HS0
                ipureintro; rw [accAt_A m c t h0 h1]; exact View.read_writes_eq_canon _ _ _ (fun y => View.cover_of_tiledL _ S128x256.size (by sl_kernel_rfl) y)
            · iexists e1; isplitr
              · ipureintro; exact fun h => absurd h (by omega)
              · iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have h2 : 1 ≤ t.val % 4 := by omega
      have hz : t.val ≠ 0 := by omega
      by_cases h3 : t.val % 4 = 3
      · rw [PhiS_castSucc m c t, PhiS_pos m c _ _ hz]
        iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := hs0 (by omega)
        iapply ((runC (F := F) c (grid0.coords t) _ _ _ _ _ _ _ _ _ _ _ _ _ _ _ _ _ _ ((hcond0_0 t).mpr h0) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · iexists (accAt m c t.val); isplitr
              · ipureintro; exact fun _ => rfl
              · unfold owns; iexists _; isplitr
                swap; · iexact HS0
                ipureintro; rw [accAt_C m c t h0 h1 h3]; exact View.read_writes_eq_canon _ _ _ (fun y => View.cover_of_tiledL _ S128x256.size (by sl_kernel_rfl) y)
            · iexists (qqAt m c t.val); isplitr
              · ipureintro; exact fun _ => rfl
              · unfold owns; iexists _; isplitr
                swap; · iexact HS1
                ipureintro; rw [qqAt_C m c t h0 h3]; exact View.read_writes_eq_canon _ _ _ (fun y => View.cover_of_tiledL _ S144x256.size (by sl_kernel_rfl) y)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := hs0 (by omega)
        iapply ((runB (F := F) c (grid0.coords t) _ _ _ _ _ _ _ _ _ _ _ _ _ _ _ _ _ _ ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexists _; iexact HS1
        iintro ⟨H0, H1, H2, H3, H4, H5, H6, ⟨%es0, HS0⟩, ⟨%e1, HS1⟩⟩
        isplitl [HS0 HS1 Hg]
        · isplitl [HS0 HS1]
          · isplitl [HS0]
            · iexists (accAt m c t.val); isplitr
              · ipureintro; exact fun _ => rfl
              · unfold owns; iexists _; isplitr
                swap; · iexact HS0
                ipureintro; rw [accAt_B m c t h0 h1 h3]; exact View.read_writes_eq_canon _ _ _ (fun y => View.cover_of_tiledL _ S128x256.size (by sl_kernel_rfl) y)
            · iexists e1; isplitr
              · ipureintro; exact fun h => absurd h (by omega)
              · iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have h4 : t.val / 4 % 2 = 1 := by omega
    have hz : t.val ≠ 0 := by omega
    rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [show (dats m 0 c).leavesExact 3 t = owns (c : Thread nD τ) (ms0_3 t) fullShare ((dats m 0 c).after 3 t) from by
        unfold Dat.leavesExact; rw [liveAt0_3 t], after0_3]
    rw [show (dats m 0 c).leavesExact 4 t = owns (c : Thread nD τ) (ms0_4 t) fullShare ((dats m 0 c).after 4 t) from by
        unfold Dat.leavesExact; rw [liveAt0_4 t], after0_4]
    rw [show (dats m 0 c).leavesExact 5 t = owns (c : Thread nD τ) (ms0_5 t) fullShare ((dats m 0 c).after 5 t) from by
        unfold Dat.leavesExact; rw [liveAt0_5 t], after0_5]
    rw [show (dats m 0 c).leavesExact 6 t = owns (c : Thread nD τ) (ms0_6 t) fullShare ((dats m 0 c).after 6 t) from by
        unfold Dat.leavesExact; rw [live6 t h4], after0_6]
    rw [PhiS_castSucc m c t, PhiS_pos m c _ _ hz]
    iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hs1 (by omega)
    iapply ((runD (F := F) c (grid0.coords t) _ _ _ _ _ _ _ _ _ _ _ _ _ _ _ _ _ _ (fun h => h0 ((hcond0_0 t).mp h)) ((hcond0_4 t).mpr h4) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexact HS1
    iintro ⟨H0, H1, H2, H3, H4, H5, ⟨%es6, H6⟩, ⟨%e0, HS0⟩, HS1⟩
    isplitl [HS0 HS1 Hg]
    · isplitl [HS0 HS1]
      · isplitl [HS0]
        · iexists e0; isplitr
          · ipureintro; exact fun h => absurd h (by omega)
          · iexact HS0
        · iexists (qqAt m c t.val); isplitr
          · ipureintro; exact fun _ => rfl
          · rw [qqAt_D m c t h0]; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; rw [outAt, dif_pos h4, qqAt_D m c t h0]; exact View.read_writes_eq_canon _ _ _ (fun y => View.cover_of_tiledL (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => (by omega : ¬t.val / 4 % 2 = 0) ((hcond0_0 t).mp h)) ((hcond0_4 t).mpr h4) (iblk m c 0 t) (iblk m c 1 t) (iblk m c 2 t) (iblk m c 3 t) (iblk m c 4 t) (iblk m c 5 t) (qqAt m c (t.val - 1))).1 S1x1x1024x32.size (by sl_kernel_rfl) y)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%s0, -, HS0⟩, ⟨%s1, -, HS1⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

-- the library theorem's implicit arguments are found by unifying its conclusion with this one, which takes unfolding
-- plain definitions in a metavariable's type
set_option backward.isDefEq.respectTransparency.types false in
set_option maxHeartbeats 800000 in
/-- The launch: every fair execution ends with the arrays as the proof data name them, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Own

end
-- ==== Proof.Value.Kernel.lean ====
module

public import proofs.«01_k».proof.Proof.Body.Run
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-! # The kernel's result, as one function of the argument arrays -/

theorem idx_queries : ∀ t : Fin cfg0.N, t.val / 4 % 2 = 0 → win0_0.index t = ![t.val / 8, t.val % 4, 0, 0] :=
  (by decide +kernel : ∀ t : Fin grid0.N, _)

theorem idx_second : ∀ t : Fin cfg0.N, t.val / 4 % 2 = 1 → win0_1.index t = ![t.val / 8, t.val % 4, 0, 0] ∧ win0_2.index t = ![t.val / 8, t.val % 4, 0, 0] ∧ win0_6.index t = ![t.val / 8, t.val % 4, 0, 0] :=
  (by decide +kernel : ∀ t : Fin grid0.N, _)

theorem idx_tables : ∀ t : Fin cfg0.N, win0_3.index t = ![0, 0] ∧ win0_4.index t = ![0, 0] ∧ win0_5.index t = ![0, 0] :=
  (by decide +kernel : ∀ t : Fin grid0.N, _)

theorem tile_lt (t : Fin cfg0.N) : t.val / 8 < 4 := by
  have h := lt_of_lt_of_eq t.isLt (show cfg0.N = 32 from N_0)
  omega

/-- The queries, keys and values as the region reads them. -/
def arrQ (c : Dev nD) : FVec Ideal S4x64x128x256 .f32 := shapeCast S4x64x128x256 (show FVec Ideal S4x64x128x8x32 .f32 from m ((c : Thread nD τ).loc main_arg0)) shapeCasts_S4x64x128x8x32_S4x64x128x256
def arrK (c : Dev nD) : FVec Ideal S4x64x128x256 .f32 := shapeCast S4x64x128x256 (show FVec Ideal S4x64x128x8x32 .f32 from m ((c : Thread nD τ).loc main_arg1)) shapeCasts_S4x64x128x8x32_S4x64x128x256
def arrV (c : Dev nD) : FVec Ideal S4x64x1024x32 .f32 := shapeCast S4x64x1024x32 (show FVec Ideal S4x64x128x8x32 .f32 from m ((c : Thread nD τ).loc main_arg2)) shapeCasts_S4x64x128x8x32_S4x64x1024x32
/-- The three tables. -/
def tabCS : FVec Ideal S128x144 .f32 := fun i => FloatOps.ofBits .f32 (lit0 (S128x144.rowMajor i))
def tabCI : FVec Ideal S144x128 .f32 := fun i => FloatOps.ofBits .f32 (lit1 (S144x128.rowMajor i))
def tabR : FVec Ideal S256x128 .f32 := fun i => FloatOps.ofBits .f32 (lit2 (S256x128.rowMajor i))

theorem V_queries (c : Dev nD) : V m c main_v0 = arrQ m c := by
  entry_read
  rfl
theorem V_keys (c : Dev nD) : V m c main_v1 = arrK m c := by
  entry_read
  rfl
theorem V_values (c : Dev nD) : V m c main_v2 = arrV m c := by
  entry_read
  rfl
theorem V_CS (c : Dev nD) : V m c main_cst = tabCS := by
  entry_read
  rfl
theorem V_CI (c : Dev nD) : V m c main_cst_0 = tabCI := by
  entry_read
  rfl
theorem V_R (c : Dev nD) : V m c main_cst_1 = tabR := by
  entry_read
  rfl

theorem blkQ (c : Dev nD) (t : Fin cfg0.N) (h : t.val / 4 % 2 = 0) (i : Fin 16) (r : Fin 128) (e : Fin 256) :
    (show FVec Ideal S1x16x128x256 .f32 from iblk m c 0 t) (ix4 0 i r e) = arrQ m c (ix4 ⟨t.val / 8, tile_lt t⟩ ⟨t.val % 4 * 16 + i.val, by omega⟩ r e) := by
  rw [← V_queries]
  blk_ext [iblk, idx_queries t h]

theorem blkK (c : Dev nD) (t : Fin cfg0.N) (h : t.val / 4 % 2 = 1) (i : Fin 16) (r : Fin 128) (e : Fin 256) :
    (show FVec Ideal S1x16x128x256 .f32 from iblk m c 1 t) (ix4 0 i r e) = arrK m c (ix4 ⟨t.val / 8, tile_lt t⟩ ⟨t.val % 4 * 16 + i.val, by omega⟩ r e) := by
  rw [← V_keys]
  blk_ext [iblk, idx_second t h]

theorem blkV (c : Dev nD) (t : Fin cfg0.N) (h : t.val / 4 % 2 = 1) (i : Fin 16) (r : Fin 1024) (e : Fin 32) :
    (show FVec Ideal S1x16x1024x32 .f32 from iblk m c 2 t) (ix4 0 i r e) = arrV m c (ix4 ⟨t.val / 8, tile_lt t⟩ ⟨t.val % 4 * 16 + i.val, by omega⟩ r e) := by
  rw [← V_values]
  blk_ext [iblk, idx_second t h]

theorem blkCS (c : Dev nD) (t : Fin cfg0.N) : (show FVec Ideal S128x144 .f32 from iblk m c 3 t) = tabCS := by
  rw [← V_CS m c]
  blk_ext! [iblk, idx_tables t]
theorem blkCI (c : Dev nD) (t : Fin cfg0.N) : (show FVec Ideal S144x128 .f32 from iblk m c 4 t) = tabCI := by
  rw [← V_CI m c]
  blk_ext! [iblk, idx_tables t]
theorem blkR (c : Dev nD) (t : Fin cfg0.N) : (show FVec Ideal S256x128 .f32 from iblk m c 5 t) = tabR := by
  rw [← V_R m c]
  blk_ext! [iblk, idx_tables t]

/-! ## The sum of the queries over the nodes -/

/-- The queries of one batch summed over its 64 nodes. -/
def querySum (c : Dev nD) (b : Fin 4) : FVec Ideal S128x256 .f32 := fun j => ∑ n : Fin 64, arrQ m c (ix4 b n (j 0) (j 1))

theorem blkSum_at (c : Dev nD) (b : Fin 4) (k : Nat) (hk : k < 4) (j : S128x256.Idx) :
    blkSum m c (8 * b.val + k) j = ∑ i : Fin 16, arrQ m c (ix4 b ⟨k * 16 + i.val, by omega⟩ (j 0) (j 1)) := by
  have hN : 8 * b.val + k < cfg0.N := lt_of_lt_of_eq (by omega : _ < 32) (show cfg0.N = 32 from N_0).symm
  unfold blkSum sumQ
  rw [dif_pos hN]
  refine Finset.sum_congr rfl fun i _ => ?_
  refine (blkQ m c ⟨8 * b.val + k, hN⟩ (by show (8 * b.val + k) / 4 % 2 = 0; omega) i (j 0) (j 1)).trans ?_
  have e1 : (8 * b.val + k) / 8 = b.val := by omega
  have e2 : (8 * b.val + k) % 4 = k := by omega
  congr 2 <;> exact Fin.ext (by simp only [e1, e2])

theorem accAt_last (c : Dev nD) (b : Fin 4) : accAt m c (8 * b.val + 3) = querySum m c b := by
  have h0 : accAt m c (8 * b.val) = blkSum m c (8 * b.val) := by
    rcases hb : 8 * b.val with _ | n
    · rfl
    · have : (n + 1) % 8 = 0 := by omega
      simp only [accAt, this, if_true]
  have hs : ∀ k, k < 3 → accAt m c (8 * b.val + k + 1) = fun j => accAt m c (8 * b.val + k) j + blkSum m c (8 * b.val + k + 1) j := by
    intro k hk
    have : ¬ (8 * b.val + k + 1) % 8 = 0 := by omega
    rw [accAt, if_neg this]
  funext j
  have h3 := congrFun (hs 2 (by omega)) j
  have h2 := congrFun (hs 1 (by omega)) j
  have h1 := congrFun (hs 0 (by omega)) j
  have hz := congrFun h0 j
  have b0 := blkSum_at m c b 0 (by omega) j
  have b1 := blkSum_at m c b 1 (by omega) j
  have b2 := blkSum_at m c b 2 (by omega) j
  have b3 := blkSum_at m c b 3 (by omega) j
  have hsum : querySum m c b j = ∑ k : Fin 4, ∑ i : Fin 16, arrQ m c (ix4 b ⟨k.val * 16 + i.val, by omega⟩ (j 0) (j 1)) :=
    Fin.sum_univ_tiles 4 16 rfl fun n : Fin 64 => arrQ m c (ix4 b n (j 0) (j 1))
  rw [hsum, Fin.sum_univ_four]
  refine h3.trans ?_
  refine congrArg₂ (· + ·) (h2.trans ?_) b3
  refine congrArg₂ (· + ·) (h1.trans ?_) b2
  exact congrArg₂ (· + ·) (hz.trans b0) b1

theorem qqAt_eq (c : Dev nD) (t : Fin cfg0.N) : qqAt m c t.val = qqOf tabCS (querySum m c ⟨t.val / 8, tile_lt t⟩) := by
  have hN : 8 * (t.val / 8) + 3 < cfg0.N := lt_of_lt_of_eq (by have := tile_lt t; omega : _ < 32) (show cfg0.N = 32 from N_0).symm
  unfold qqAt
  rw [dif_pos hN]
  exact congrArg₂ qqOf (blkCS m c _) (accAt_last m c ⟨t.val / 8, tile_lt t⟩)

/-! ## The result array -/

/-- The correlation the kernel forms for a batch, a node, a head column and a lag. -/
def corrK (c : Dev nD) (b : Fin 4) (n : Fin 64) (h t : Fin 128) : EReal :=
  ∑ f : Fin 144, (∑ e : Fin 256, prodAt (qqOf tabCS (querySum m c b))
    (fun g => ∑ r : Fin 128, tabCS (ix2 r g) * arrK m c (ix4 b n r e)) f e * tabR (ix2 e h)) * tabCI (ix2 f t)

/-- What the kernel leaves in its result array. -/
def outArr (c : Dev nD) : FVec Ideal S4x64x1024x32 .f32 := fun y =>
  arrV m c y * scl fun t => corrK m c (y 0) (y 1) ⟨(y 2).val % 8, by omega⟩ t

theorem corrAt_block (c : Dev nD) (t : Fin cfg0.N) (h : t.val / 4 % 2 = 1) (i : Fin 16) (hd l : Fin 128) :
    corrAt (iblk m c 3 t) (iblk m c 4 t) (iblk m c 5 t) (qqAt m c t.val) (nodeKeys (iblk m c 1 t)) i hd l
      = corrK m c ⟨t.val / 8, tile_lt t⟩ ⟨t.val % 4 * 16 + i.val, by omega⟩ hd l := by
  have h3 := blkCS m c t
  have h4 := blkCI m c t
  have h5 := blkR m c t
  unfold corrAt corrK kkAt
  rw [qqAt_eq]
  refine Finset.sum_congr rfl fun f _ => ?_
  refine congrArg₂ (· * ·) (Finset.sum_congr rfl fun e _ => ?_) (congrFun h4 (ix2 f l))
  refine congrArg₂ (· * ·) (congrArg (fun kk => prodAt _ kk f e) (funext fun g => Finset.sum_congr rfl fun r _ => ?_)) (congrFun h5 (ix2 e hd))
  exact congrArg₂ (· * ·) (congrFun h3 (ix2 r g)) (blkK m c t h i r e)

theorem blkOut (G : FVec Ideal S4x64x1024x32 .f32) (t : Fin cfg0.N) (h : t.val / 4 % 2 = 1) (i : Fin 16) (r : Fin 1024) (e : Fin 32) :
    (show FVec Ideal S1x16x1024x32 .f32 from ((cfg0.win 6).blk t).view.read (Elt Ideal) G) (ix4 0 i r e)
      = G (ix4 ⟨t.val / 8, tile_lt t⟩ ⟨t.val % 4 * 16 + i.val, by omega⟩ r e) := by
  blk_ext [idx_second t h]

theorem out_block (c : Dev nD) (t : Fin cfg0.N) (h : t.val / 4 % 2 = 1) (i : Fin 16) (r : Fin 1024) (e : Fin 32) :
    outAt m c t (ix4 0 i r e) = outArr m c (ix4 ⟨t.val / 8, tile_lt t⟩ ⟨t.val % 4 * 16 + i.val, by omega⟩ r e) := by
  unfold outAt outArr headScl
  refine congrArg₂ (· * ·) (blkV m c t h i r e) (congrArg scl (funext fun l => ?_))
  exact corrAt_block m c t h i ⟨r.val % 8, by omega⟩ l

theorem final (c : Dev nD) : (dats m 0 c).arrAt 6 cfg0.N = outArr m c := by
  refine (dats m 0 c).arrAt_eq_of_covers 6 (outArr m c) (by decide +kernel) fun t hf y => ?_
  have hp : t.val / 4 % 2 = 1 := by
    revert hf
    exact (by decide +kernel : ∀ t : Fin grid0.N, win0_6.flush t = true → t.val / 4 % 2 = 1) t
  blk_simp
  rw [after0_6]
  suffices hs : ∀ y : S1x16x1024x32.Idx, outAt m c t y
      = (show FVec Ideal S1x16x1024x32 .f32 from ((cfg0.win 6).blk t).view.read (Elt Ideal) (outArr m c)) y from hs y
  intro y
  have hy : y = ix4 0 (y 1) (y 2) (y 3) := by idx_ext <;> omega
  rw [hy]
  exact (out_block m c t hp (y 1) (y 2) (y 3)).trans (blkOut (outArr m c) t hp (y 1) (y 2) (y 3)).symm

variable (ρ : Dev nD → PrngReg)

/-- The kernel's result, over the argument arrays. -/
def kernelOut (c : Dev nD) : FVec Ideal S4x64x128x8x32 .f32 := shapeCast S4x64x128x8x32 (outArr m c) shapeCasts_S4x64x1024x32_S4x64x128x8x32

theorem tail_result (c : Dev nD) : Pipeline.afterTail₀ cfgs (dats m) 0 (V0 m) [hostOps1] c main_v4 = kernelOut m c := by
  unfold Pipeline.afterTail₀
  have ha : Pipeline.withArrays (cfgs 0).spec c (V0 m c) (fun w => (dats m 0 c).arrAt w (cfgs 0).N) (Proc.devRef .tc main_v3) = outArr m c :=
    ((dats m 0 c).withArrays_arrAt (by decide) (V0 m c) (fun w => (A_eq m c w)) 6).trans (final m c)
  show StableHlo.after hostOps1 _ _ = _
  after_results
  rw [ha]
  rfl

theorem kernel_run : θ_run defs (onTc (τ := τ) (main (F := Ideal))) (s₀ m ρ) (fun r => ∀ c : Dev nD,
    r.2.mem ((c.tc : Thread nD τ).loc main_v4) = kernelOut m c) :=
  (θ_run defs _ _).mono (fun r h c => ((h c).2 main_v4 (Pipeline.mem_restRefs_of main_v4 (by decide) (by decide))).trans (tail_result m c)) (run_main m ρ)

/-- The kernel's result at an index: the value times the scale of its node and head. -/
theorem kernelOut_at (c : Dev nD) (b : Fin 4) (n : Fin 64) (l : Fin 128) (h : Fin 8) (e : Fin 32) :
    kernelOut m c (ix5 b n l h e) = (show FVec Ideal S4x64x128x8x32 .f32 from m ((c : Thread nD τ).loc main_arg2)) (ix5 b n l h e)
      * scl fun t => corrK m c b n ⟨h.val, by omega⟩ t := by
  unfold kernelOut
  have h1 : arrV m c (ix4 b n ⟨l.val * 8 + h.val, by omega⟩ e) = (show FVec Ideal S4x64x128x8x32 .f32 from m ((c : Thread nD τ).loc main_arg2)) (ix5 b n l h e) := by
    unfold arrV
    generalize (show FVec Ideal S4x64x128x8x32 .f32 from m ((c : Thread nD τ).loc main_arg2)) = v
    pointwise []
  have h2 : (⟨(l.val * 8 + h.val) % 8, by omega⟩ : Fin 128) = ⟨h.val, by omega⟩ := Fin.ext (by show (l.val * 8 + h.val) % 8 = h.val; omega)
  have h3 : outArr m c (ix4 b n ⟨l.val * 8 + h.val, by omega⟩ e) = (show FVec Ideal S4x64x128x8x32 .f32 from m ((c : Thread nD τ).loc main_arg2)) (ix5 b n l h e)
      * scl fun t => corrK m c b n ⟨h.val, by omega⟩ t := by
    rw [← h1, ← h2]
    rfl
  rw [← h3]
  generalize outArr m c = w
  pointwise []

/-- The queries at a column that is a head and a channel. -/
theorem arrQ_at (c : Dev nD) (b : Fin 4) (n : Fin 64) (l : Fin 128) (x : Fin 256) :
    arrQ m c (ix4 b n l x) = (show FVec Ideal S4x64x128x8x32 .f32 from m ((c : Thread nD τ).loc main_arg0)) (ix5 b n l ⟨x.val / 32, by omega⟩ ⟨x.val % 32, by omega⟩) := by
  unfold arrQ
  generalize (show FVec Ideal S4x64x128x8x32 .f32 from m ((c : Thread nD τ).loc main_arg0)) = v
  pointwise []

/-- The keys at a column that is a head and a channel. -/
theorem arrK_at (c : Dev nD) (b : Fin 4) (n : Fin 64) (l : Fin 128) (x : Fin 256) :
    arrK m c (ix4 b n l x) = (show FVec Ideal S4x64x128x8x32 .f32 from m ((c : Thread nD τ).loc main_arg1)) (ix5 b n l ⟨x.val / 32, by omega⟩ ⟨x.val % 32, by omega⟩) := by
  unfold arrK
  generalize (show FVec Ideal S4x64x128x8x32 .f32 from m ((c : Thread nD τ).loc main_arg1)) = v
  pointwise []

end Cert.KernelIdeal.Own
-- ==== Proof.Value.Take.lean ====
module

public import proofs.«01_k».proof.Proof.Gen.ReferenceIdeal.Run
public import Idealize.ShloMosaic.Lib.Pointwise

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.SL.Sem Idealize.ShloMosaic.StableHlo

/-! # The two index-taking steps of the reference, read at an index

Both take along an axis by an array of 32-bit positions: a negative position has the axis length added, a position
out of range selects a filler.  Read at an index whose position is in range, each is the array at that position. -/

/-- A word made of a small number reads as that number. -/
theorem toInt_ofNat {k : Nat} (hk : k < 256) : (BitVec.ofNat 32 k).toInt = (k : Int) := by
  rw [BitVec.toInt_eq_toNat_cond, BitVec.toNat_ofNat]
  have : k % 2 ^ 32 = k := Nat.mod_eq_of_lt (by omega)
  rw [this, if_pos (by omega)]

/-- A small number is not negative as a word. -/
theorem slt_zero {k : Nat} (hk : k < 256) : IntOp.cmpi .slt (BitVec.ofNat 32 k) 0#32 = 0#1 := by
  have h : (BitVec.ofNat 32 k).slt 0#32 = false := by
    rw [BitVec.slt, toInt_ofNat hk]
    exact decide_eq_false (by simp)
  simp [IntOp.cmpi, h]

/-- A small number passes the range check. -/
theorem inRange {k u : Nat} (hk : k ≤ u) (hu : u < 256) :
    IntOp.andi (IntOp.cmpi .sge (BitVec.ofNat 32 k) 0#32) (IntOp.cmpi .sle (BitVec.ofNat 32 k) (BitVec.ofNat 32 u)) = 1#1 := by
  have h1 : (0#32).sle (BitVec.ofNat 32 k) = true := by
    rw [BitVec.sle, toInt_ofNat (k := k) (by omega)]
    exact decide_eq_true (by simp)
  have h2 : (BitVec.ofNat 32 k).sle (BitVec.ofNat 32 u) = true := by
    rw [BitVec.sle, toInt_ofNat (k := k) (by omega), toInt_ofNat hu]
    exact decide_eq_true (by omega)
  simp [IntOp.cmpi, IntOp.andi, h1, h2]

/-- A conjunction of ones is one. -/
theorem fold_ones {α : Type} (s : Finset α) (f : α → BitVec 1) (h : ∀ x ∈ s, f x = 1#1) : s.fold IntOp.andi 1#1 f = 1#1 := by
  classical
  induction s using Finset.induction_on with
  | empty => rfl
  | insert a t ha ih =>
    rw [Finset.fold_insert ha, h a (Finset.mem_insert_self a t), ih fun x hx => h x (Finset.mem_insert_of_mem hx)]
    rfl

/-- Positions along time, brought into range. -/
def timePos (raw : IVec S4x64x8x32x128 32) : IVec S4x64x8x32x128x1 32 :=
  shapeCast _ (select (cmpi .slt raw (broadcastInDim S4x64x8x32x128 ![] bcast_S_S4x64x8x32x128 (constantI S_ 32 0#32))) (addi raw (broadcastInDim S4x64x8x32x128 ![] bcast_S_S4x64x8x32x128 (constantI S_ 32 256#32))) raw) shapeCasts_S4x64x8x32x128_S4x64x8x32x128x1

/-- The array laid twice end to end along time, taken at positions along time. -/
def timeTake (x : FVec Ideal S4x64x8x32x128 .f32) (raw : IVec S4x64x8x32x128 32) : FVec Ideal S4x64x8x32x128 .f32 :=
  select (Host.reduce IntOp.andi (andi (cmpi .sge (timePos raw) (broadcastInDim S4x64x8x32x128x1 ![] bcast_S_S4x64x8x32x128x1 (constantI S_ 32 0#32))) (cmpi .sle (timePos raw) (broadcastInDim S4x64x8x32x128x1 ![0, 1, 2, 3, 4, 5] bcast_S1x1x1x1x1x1_S4x64x8x32x128x1_0_1_2_3_4_5 (broadcastInDim S1x1x1x1x1x1 ![5] bcast_S1_S1x1x1x1x1x1_5 (constantI S1 32 255#32))))) (constantI S_ 1 1#1) reducesTo_S4x64x8x32x128x1_S4x64x8x32x128_d5 h_S_) (Host.gather gather_S4x64x8x32x256_S4x64x8x32x128x1_S4x64x8x32x128_n_4_0123_0123_4_5_11111 (concatenate S4x64x8x32x256 4 [⟨S4x64x8x32x128, x⟩, ⟨S4x64x8x32x128, x⟩] concatenates_S4x64x8x32x128_S4x64x8x32x128_S4x64x8x32x256_d4) (timePos raw)) (broadcastInDim S4x64x8x32x128 ![] bcast_S_S4x64x8x32x128 (constant S_ .f32 0x7FC00000#32))

theorem timePos_at (raw : IVec S4x64x8x32x128 32) (b : Fin 4) (n : Fin 64) (h : Fin 8) (e : Fin 32) (l : Fin 128) (z : Fin 1) (k : Nat) (hk : k < 256)
    (hr : raw (ix5 b n h e l) = BitVec.ofNat 32 k) : timePos raw (ix6 b n h e l z) = BitVec.ofNat 32 k := by
  pointwise [timePos, hr, slt_zero hk]

/-- The operand index that a position along time selects. -/
theorem timeOperand (b : Fin 4) (n : Fin 64) (h : Fin 8) (e : Fin 32) (l : Fin 128) (idx : IVec S4x64x8x32x128x1 32) (k : Nat) (hk : k < 256)
    (hi : idx (ix6 b n h e l 0) = BitVec.ofNat 32 k) :
    gather_S4x64x8x32x256_S4x64x8x32x128x1_S4x64x8x32x128_n_4_0123_0123_4_5_11111.operandIdx (ix5 b n h e l) idx = ix5 b n h e ⟨k, hk⟩ := by
  have hs : gather_S4x64x8x32x256_S4x64x8x32x128x1_S4x64x8x32x128_n_4_0123_0123_4_5_11111.siIdx (ix5 b n h e l) ⟨0, by decide⟩ = ix6 b n h e l 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)
  | ⟨4, _⟩ =>
    refine Fin.ext (Eq.trans (b := min (idx (gather_S4x64x8x32x256_S4x64x8x32x128x1_S4x64x8x32x128_n_4_0123_0123_4_5_11111.siIdx (ix5 b n h e l) ⟨0, by decide⟩)).toInt.toNat 255) rfl ?_)
    rw [hs, hi, toInt_ofNat hk]
    show min k 255 = k
    omega

/-- Taking along time at a position in range. -/
theorem timeTake_at (x : FVec Ideal S4x64x8x32x128 .f32) (raw : IVec S4x64x8x32x128 32) (b : Fin 4) (n : Fin 64) (h : Fin 8) (e : Fin 32) (l : Fin 128) (k : Nat) (hk : k < 256)
    (hr : raw (ix5 b n h e l) = BitVec.ofNat 32 k) : timeTake x raw (ix5 b n h e l) = x (ix5 b n h e ⟨k % 128, Nat.mod_lt _ (by decide)⟩) := by
  have hp := fun z => timePos_at raw b n h e l z k hk hr
  have hg : ∀ X : FVec Ideal S4x64x8x32x256 .f32, Host.gather gather_S4x64x8x32x256_S4x64x8x32x128x1_S4x64x8x32x128_n_4_0123_0123_4_5_11111 X (timePos raw) (ix5 b n h e l) = X (ix5 b n h e ⟨k, hk⟩) :=
    fun X => congrArg X (timeOperand b n h e l _ k hk (hp 0))
  have hone : ∀ i ∈ ({i | reducesTo_S4x64x8x32x128x1_S4x64x8x32x128_d5.drop i = ix5 b n h e l} : Finset S4x64x8x32x128x1.Idx),
      IntOp.andi (IntOp.cmpi CmpIPredicate.sge (timePos raw i) 0#32) (IntOp.cmpi CmpIPredicate.sle (timePos raw i) 255#32) = 1#1 := by
    intro i hi
    have hi := (Finset.mem_filter.1 hi).2
    have hi6 : i = ix6 b n h e l (i 5) := by
      funext a
      match a with
      | ⟨0, _⟩ => exact congrFun hi 0
      | ⟨1, _⟩ => exact congrFun hi 1
      | ⟨2, _⟩ => exact congrFun hi 2
      | ⟨3, _⟩ => exact congrFun hi 3
      | ⟨4, _⟩ => exact congrFun hi 4
      | ⟨5, _⟩ => rfl
    have hv : timePos raw i = BitVec.ofNat 32 k := (congrArg _ hi6).trans (hp _)
    rw [hv]
    exact inRange (u := 255) (by omega) (by omega)
  pointwise [timeTake, hg]
  rw [fold_ones _ _ hone]
  by_cases h1 : k < 128
  · rw [dif_pos h1]
    have : k % 128 = k := Nat.mod_eq_of_lt h1
    simp only [this]
    rfl
  · rw [dif_neg h1]
    have : k % 128 = k - 128 := by omega
    simp only [this]
    rfl

/-- Positions along the nodes, brought into range. -/
def nodePos (raw : IVec S32x64x32x128 32) : IVec S32x64x32x128x1 32 :=
  shapeCast _ (select (cmpi .slt raw (broadcastInDim S32x64x32x128 ![] bcast_S_S32x64x32x128 (constantI S_ 32 0#32))) (addi raw (broadcastInDim S32x64x32x128 ![] bcast_S_S32x64x32x128 (constantI S_ 32 64#32))) raw) shapeCasts_S32x64x32x128_S32x64x32x128x1

/-- The array taken at positions along the nodes. -/
def nodeTake (x : FVec Ideal S32x64x32x128 .f32) (raw : IVec S32x64x32x128 32) : FVec Ideal S32x64x32x128 .f32 :=
  select (Host.reduce IntOp.andi (andi (cmpi .sge (nodePos raw) (broadcastInDim S32x64x32x128x1 ![] bcast_S_S32x64x32x128x1 (constantI S_ 32 0#32))) (cmpi .sle (nodePos raw) (broadcastInDim S32x64x32x128x1 ![0, 1, 2, 3, 4] bcast_S1x1x1x1x1_S32x64x32x128x1_0_1_2_3_4 (broadcastInDim S1x1x1x1x1 ![4] bcast_S1_S1x1x1x1x1_4 (constantI S1 32 63#32))))) (constantI S_ 1 1#1) reducesTo_S32x64x32x128x1_S32x64x32x128_d4 h_S_) (Host.gather gather_S32x64x32x128_S32x64x32x128x1_S32x64x32x128_n_1_023_023_1_4_1111 x (nodePos raw)) (broadcastInDim S32x64x32x128 ![] bcast_S_S32x64x32x128 (constant S_ .f32 0x7FC00000#32))

theorem nodePos_at (raw : IVec S32x64x32x128 32) (g : Fin 32) (n : Fin 64) (e : Fin 32) (l : Fin 128) (z : Fin 1) (k : Nat) (hk : k < 256)
    (hr : raw (ix4 g n e l) = BitVec.ofNat 32 k) : nodePos raw (ix5 g n e l z) = BitVec.ofNat 32 k := by
  pointwise [nodePos, hr, slt_zero hk]

/-- The operand index that a position along the nodes selects. -/
theorem nodeOperand (g : Fin 32) (n : Fin 64) (e : Fin 32) (l : Fin 128) (idx : IVec S32x64x32x128x1 32) (k : Nat) (hk : k < 64)
    (hi : idx (ix5 g n e l 0) = BitVec.ofNat 32 k) :
    gather_S32x64x32x128_S32x64x32x128x1_S32x64x32x128_n_1_023_023_1_4_1111.operandIdx (ix4 g n e l) idx = ix4 g ⟨k, hk⟩ e l := by
  have hs : gather_S32x64x32x128_S32x64x32x128x1_S32x64x32x128_n_1_023_023_1_4_1111.siIdx (ix4 g n e l) ⟨0, by decide⟩ = ix5 g n e l 0 := by
    funext a
    match a with
    | ⟨0, _⟩ => rfl
    | ⟨1, _⟩ => rfl
    | ⟨2, _⟩ => rfl
    | ⟨3, _⟩ => rfl
    | ⟨4, _⟩ => rfl
  funext a
  match a with
  | ⟨0, _⟩ => exact Fin.ext (Nat.zero_add _)
  | ⟨1, _⟩ =>
    refine Fin.ext (Eq.trans (b := min (idx (gather_S32x64x32x128_S32x64x32x128x1_S32x64x32x128_n_1_023_023_1_4_1111.siIdx (ix4 g n e l) ⟨0, by decide⟩)).toInt.toNat 63) rfl ?_)
    rw [hs, hi, toInt_ofNat (by omega)]
    show min k 63 = k
    omega
  | ⟨2, _⟩ => exact Fin.ext (Nat.zero_add _)
  | ⟨3, _⟩ => exact Fin.ext (Nat.zero_add _)

/-- Taking along the nodes at a position in range. -/
theorem nodeTake_at (x : FVec Ideal S32x64x32x128 .f32) (raw : IVec S32x64x32x128 32) (g : Fin 32) (n : Fin 64) (e : Fin 32) (l : Fin 128) (k : Fin 64)
    (hr : raw (ix4 g n e l) = BitVec.ofNat 32 k.val) : nodeTake x raw (ix4 g n e l) = x (ix4 g k e l) := by
  have hp := fun z => nodePos_at raw g n e l z k.val (by omega) hr
  have hg : Host.gather gather_S32x64x32x128_S32x64x32x128x1_S32x64x32x128_n_1_023_023_1_4_1111 x (nodePos raw) (ix4 g n e l) = x (ix4 g k e l) :=
    congrArg x (nodeOperand g n e l _ k.val k.isLt (hp 0))
  have hone : ∀ z : Fin 1, IntOp.andi (IntOp.cmpi CmpIPredicate.sge (nodePos raw (ix5 g n e l z)) 0#32) (IntOp.cmpi CmpIPredicate.sle (nodePos raw (ix5 g n e l z)) 63#32) = 1#1 := by
    intro z
    rw [hp]
    exact inRange (u := 63) (by omega) (by omega)
  pointwise [nodeTake, hg]
  rw [fold_ones _ _ fun z _ => hone z]
  rfl

end Cert.ReferenceIdeal.Own
-- ==== Proof.Value.Sort.lean ====
module

public import Idealize.ShloMosaic.Lib.SortFacts
public import Idealize.ShloMosaic.Lib.Pointwise
public import proofs.«01_k».proof.Proof.Body.Arith

@[expose] public section

noncomputable section

namespace Cert.ValueSort

open Idealize.ShloMosaic Idealize.ShloMosaic.TcCoe Idealize.SL.Sem
open Cert.KernelIdeal.Own (firstMax max1 max2 scl)

/-! # The two largest of a row, by sorting and by two maxima -/

/-- The positions of a row in decreasing order of value. -/
def order (r : Fin 128 → EReal) : Fin 128 → Fin 128 :=
  sortedFrom fun k k' => FloatOps.cmpfTotal (F := Ideal) (φ := .f32) .gt (r k) (r k') == 1#1

theorem gt_iff (a b : EReal) : (FloatOps.cmpfTotal (F := Ideal) (φ := .f32) .gt a b == 1#1) = decide (b < a) := by
  show (Ideal.cmpTotal _ a b == 1#1) = _
  by_cases h : b < a <;> simp [Ideal.cmpTotal, Ideal.cmp, CmpDirection.ordered, h]

/-- The sorted row decreases. -/
theorem order_anti (r : Fin 128 → EReal) (i j : Fin 128) (hij : i < j) : r (order r j) ≤ r (order r i) := by
  have h := sortedFrom_noInversion (fun k k' => decide (r k' < r k)) (fun k k' => FloatOps.cmpfTotal (F := Ideal) (φ := .f32) .gt (r k) (r k') == 1#1)
    (fun a b hab => by rw [gt_iff] at hab; exact decide_eq_false (not_lt.2 (le_of_lt (of_decide_eq_true hab))))
    (fun a b hab => by rw [gt_iff]; exact hab)
    (fun a b c hab hbc => decide_eq_false (not_lt.2 (le_trans (not_lt.1 (of_decide_eq_false hab)) (not_lt.1 (of_decide_eq_false hbc)))))
    i j hij
  exact not_lt.1 (of_decide_eq_false h)

theorem order_inj (r : Fin 128 → EReal) : Function.Injective (order r) := sortedFrom_injective _

/-- No value exceeds the first of the order. -/
theorem order_first (r : Fin 128 → EReal) (k : Fin 128) : r k ≤ r (order r 0) := by
  obtain ⟨i, rfl⟩ := sortedFrom_surjective (fun k k' => FloatOps.cmpfTotal (F := Ideal) (φ := .f32) .gt (r k) (r k') == 1#1) k
  rcases eq_or_ne i 0 with rfl | hi
  · exact le_refl _
  · exact order_anti r 0 i (Fin.pos_iff_ne_zero.2 hi)

/-- No value at another position exceeds the second of the order. -/
theorem order_second (r : Fin 128 → EReal) (k : Fin 128) (hk : k ≠ order r 0) : r k ≤ r (order r 1) := by
  obtain ⟨i, rfl⟩ := sortedFrom_surjective (fun k k' => FloatOps.cmpfTotal (F := Ideal) (φ := .f32) .gt (r k) (r k') == 1#1) k
  rcases eq_or_ne i 1 with rfl | h1
  · exact le_refl _
  · have h0 : i ≠ 0 := fun h => hk (by rw [h]; rfl)
    refine order_anti r 1 i ?_
    rw [Fin.lt_def]
    have a0 : i.val ≠ 0 := fun h => h0 (Fin.ext h)
    have a1 : i.val ≠ 1 := fun h => h1 (Fin.ext h)
    show 1 < i.val
    omega

/-- The seed of the maxima is the least value. -/
theorem seed_bot : Ideal.ofBits FTy.f32 4286578688#32 = ⊥ := by
  simp [Ideal.ofBits, Ideal.ieee]

theorem max1_eq (r : Fin 128 → EReal) : max1 r = r (order r 0) := by
  apply le_antisymm
  · refine (Finset.fold_max_le _).2 ⟨by rw [seed_bot]; exact bot_le, fun k _ => order_first r k⟩
  · exact (Finset.le_fold_max _).2 (Or.inr ⟨_, Finset.mem_univ _, le_refl _⟩)

/-- The least word of a family is the seed or a member, and is at most each member. -/
theorem fold_min_spec (s : Finset (Fin 128)) (f : Fin 128 → BitVec 32) (a : BitVec 32) :
    (s.fold IntOp.minsi a f = a ∨ ∃ x ∈ s, s.fold IntOp.minsi a f = f x) ∧ ∀ x ∈ s, (s.fold IntOp.minsi a f).toInt ≤ (f x).toInt := by
  induction s using Finset.induction_on with
  | empty => exact ⟨Or.inl rfl, fun x hx => absurd hx (Finset.notMem_empty x)⟩
  | insert b t hb ih =>
    rw [Finset.fold_insert hb]
    obtain ⟨h1, h2⟩ := ih
    generalize t.fold IntOp.minsi a f = w at h1 h2 ⊢
    by_cases hc : (f b).toInt < w.toInt
    · have hm : IntOp.minsi (f b) w = f b := by simp [IntOp.minsi, BitVec.slt, BitVec.sle, hc, hc.le]
      rw [hm]
      refine ⟨Or.inr ⟨b, Finset.mem_insert_self _ _, rfl⟩, fun x hx => ?_⟩
      rcases Finset.mem_insert.1 hx with rfl | hx
      · exact le_refl _
      · exact hc.le.trans (h2 x hx)
    · have hm : (IntOp.minsi (f b) w).toInt = w.toInt ∧ (IntOp.minsi (f b) w = w ∨ IntOp.minsi (f b) w = f b) := by
        unfold IntOp.minsi
        split
        · rename_i h
          simp only [BitVec.slt, BitVec.sle, decide_eq_true_eq] at h
          exact ⟨by omega, Or.inr rfl⟩
        · exact ⟨rfl, Or.inl rfl⟩
      refine ⟨?_, fun x hx => ?_⟩
      · rcases hm.2 with h | h
        · rw [h]
          rcases h1 with h1 | ⟨x, hx, h1⟩
          · exact Or.inl h1
          · exact Or.inr ⟨x, Finset.mem_insert_of_mem hx, h1⟩
        · exact Or.inr ⟨b, Finset.mem_insert_self _ _, h⟩
      · rw [hm.1]
        rcases Finset.mem_insert.1 hx with rfl | hx
        · exact not_lt.1 hc
        · exact h2 x hx

theorem toInt_small {k : Nat} (hk : k < 256) : (BitVec.ofNat 32 k).toInt = (k : Int) := by
  rw [BitVec.toInt_eq_toNat_cond, BitVec.toNat_ofNat]
  have : k % 2 ^ 32 = k := Nat.mod_eq_of_lt (by omega)
  rw [this, if_pos (by omega)]

/-- The first position of the maximum is the word of a position that has the maximum. -/
theorem firstMax_spec (r : Fin 128 → EReal) : ∃ m : Fin 128, firstMax r = BitVec.ofNat 32 m.val ∧ r m = max1 r := by
  obtain ⟨h1, h2⟩ := fold_min_spec Finset.univ (fun x : Fin 128 => if r x = max1 r then BitVec.ofNat 32 x.val else 128#32) 2147483647#32
  have hf : firstMax r = Finset.univ.fold IntOp.minsi 2147483647#32 (fun x : Fin 128 => if r x = max1 r then BitVec.ofNat 32 x.val else 128#32) := rfl
  rw [← hf] at h1 h2
  have hlt : (firstMax r).toInt < 128 := by
    have h := h2 (order r 0) (Finset.mem_univ _)
    rw [if_pos (max1_eq r).symm, toInt_small (by omega)] at h
    omega
  rcases h1 with h1 | ⟨x, -, h1⟩
  · rw [h1] at hlt
    exact absurd hlt (by decide)
  · by_cases hx : r x = max1 r
    · rw [if_pos hx] at h1
      exact ⟨x, h1, hx⟩
    · rw [if_neg hx] at h1
      rw [h1] at hlt
      exact absurd hlt (by decide)

theorem ofNat_inj {a b : Nat} (ha : a < 256) (hb : b < 256) (h : BitVec.ofNat 32 a = BitVec.ofNat 32 b) : a = b := by
  have := congrArg BitVec.toInt h
  rw [toInt_small ha, toInt_small hb] at this
  omega

/-- The maximum of the row with the first maximum taken out is the second of the order. -/
theorem max2_eq (r : Fin 128 → EReal) : max2 r = r (order r 1) := by
  obtain ⟨m, hm, hr⟩ := firstMax_spec r
  have hsel : ∀ x : Fin 128, Scalar.select (IntOp.cmpi CmpIPredicate.eq (BitVec.ofNat 32 x.val) (firstMax r)) (Ideal.ofBits FTy.f32 4286578688#32) (r x) = if x = m then ⊥ else r x := by
    intro x
    by_cases hx : x = m
    · subst hx
      rw [if_pos rfl, hm, seed_bot]
      simp [Scalar.select, IntOp.cmpi]
    · have hne : (BitVec.ofNat 32 x.val == BitVec.ofNat 32 m.val) = false := by
        simp only [beq_eq_false_iff_ne, ne_eq]
        exact fun h => hx (Fin.ext (ofNat_inj (by omega) (by omega) h))
      rw [if_neg hx, hm]
      simp [Scalar.select, IntOp.cmpi, hne]
  have hfold : max2 r = Finset.univ.fold max ⊥ (fun x : Fin 128 => if x = m then ⊥ else r x) := by
    unfold max2
    rw [seed_bot] at hsel
    rw [seed_bot]
    exact Finset.fold_congr fun x _ => hsel x
  have hr : r m = r (order r 0) := hr.trans (max1_eq r)
  rw [hfold]
  have h01 : order r 0 ≠ order r 1 := fun h => absurd (order_inj r h) (by decide)
  apply le_antisymm
  · refine (Finset.fold_max_le _).2 ⟨bot_le, fun x _ => ?_⟩
    by_cases hx : x = m
    · rw [if_pos hx]; exact bot_le
    · rw [if_neg hx]
      by_cases h0 : x = order r 0
      · have : m ≠ order r 0 := fun h => hx (h0.trans h.symm)
        rw [h0, ← hr]
        exact order_second r m this
      · exact order_second r x h0
  · by_cases h1 : order r 1 = m
    · refine (Finset.le_fold_max _).2 (Or.inr ⟨order r 0, Finset.mem_univ _, ?_⟩)
      rw [if_neg (fun h => h01 (h.trans h1.symm)), h1, hr]
    · refine (Finset.le_fold_max _).2 (Or.inr ⟨order r 1, Finset.mem_univ _, ?_⟩)
      rw [if_neg h1]

/-! # Sorting the positions a sort gives undoes it -/

theorem lt_word (a b : Fin 64) : (IntOp.cmpi .slt (BitVec.ofNat 32 a.val) (BitVec.ofNat 32 b.val) == 1#1) = decide (a < b) := by
  by_cases h : a < b
  · have h' : a.val < b.val := h
    have : (BitVec.ofNat 32 a.val).slt (BitVec.ofNat 32 b.val) = true := by
      rw [BitVec.slt, toInt_small (by omega), toInt_small (by omega)]
      exact decide_eq_true (by omega)
    simp [IntOp.cmpi, this, h]
  · have h' : ¬a.val < b.val := h
    have : (BitVec.ofNat 32 a.val).slt (BitVec.ofNat 32 b.val) = false := by
      rw [BitVec.slt, toInt_small (by omega), toInt_small (by omega)]
      exact decide_eq_false (by omega)
    simp [IntOp.cmpi, this, h]

/-- An increasing self-map of a finite interval fixes every point. -/
theorem fixes_of_mono (f : Fin 64 → Fin 64) (hf : StrictMono f) (n : Fin 64) : f n = n := by
  have hr : Set.range f = Set.range (id : Fin 64 → Fin 64) := by
    rw [Set.range_id]
    exact Set.range_eq_univ.2 (Finite.surjective_of_injective hf.injective)
  exact congrFun ((StrictMono.range_inj hf strictMono_id).1 hr) n

attribute [local irreducible] sortedFrom

/-- A permutation that sorts the values of an injective map makes it increasing. -/
theorem mono_sorted (p : Fin 64 → Fin 64) (hp : Function.Injective p) (R : Fin 64 → Fin 64 → Bool) (hR : ∀ k k', R k k' = decide (p k < p k')) :
    StrictMono fun i => p (sortedFrom R i) := by
  intro i j hij
  have h := sortedFrom_noInversion R R
    (fun a b hab => by rw [hR] at hab ⊢; exact decide_eq_false (not_lt.2 (le_of_lt (of_decide_eq_true hab))))
    (fun a b hab => hab)
    (fun a b c hab hbc => by rw [hR] at hab hbc ⊢; exact decide_eq_false (not_lt.2 (le_trans (not_lt.1 (of_decide_eq_false hbc)) (not_lt.1 (of_decide_eq_false hab)))))
    i j hij
  rw [hR] at h
  refine lt_of_le_of_ne (not_lt.1 (of_decide_eq_false h)) fun he => ?_
  exact absurd (sortedFrom_injective _ (hp he)) (ne_of_lt hij)

/-- If `p` is injective and read as words, the sort of those words is its inverse. -/
theorem sort_words_inv (p : Fin 64 → Fin 64) (hp : Function.Injective p) (n : Fin 64) :
    p (sortedFrom (fun k k' => IntOp.cmpi .slt (BitVec.ofNat 32 (p k).val) (BitVec.ofNat 32 (p k').val) == 1#1) n) = n :=
  fixes_of_mono _ (mono_sorted p hp _ fun k k' => lt_word (p k) (p k')) n

end Cert.ValueSort
-- ==== Proof.Value.Path.lean ====
module

public import proofs.«01_k».proof.Proof.Value.Take
public import proofs.«01_k».proof.Proof.Value.Sort
public import Idealize.ShloMosaic.Lib.Pointwise

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.SL.Sem Idealize.ShloMosaic.StableHlo

/-! # The reference after its correlation, read at an index -/

attribute [local irreducible] sortedFrom

/-- One batch, node and head's correlations over the lags. -/
def row (corr : FVec Ideal S4x64x8x128 .f32) (b : Fin 4) (n : Fin 64) (h : Fin 8) : Fin 128 → EReal := fun t => corr (ix4 b n h t)

/-- The weights and lags of the two largest correlations. -/
def top (corr : FVec Ideal S4x64x8x128 .f32) : FVec Ideal S4x64x8x2 .f32 × IVec S4x64x8x2 32 :=
  Host.topK S4x64x8x2 3 (FloatOps.cmpfTotal (F := Ideal) (φ := .f32) .gt) corr sliceFits_S4x64x8x128_S4x64x8x2

theorem along3 (b : Fin 4) (n : Fin 64) (h : Fin 8) (t : Fin 128) :
    (fun k : Fin 128 => Shape.Idx.along (s := S4x64x8x128) (ix4 b n h t) 3 k) = fun k => ix4 b n h k := by
  funext k a
  match a with
  | ⟨0, _⟩ => exact Function.update_of_ne (fun h => absurd (congrArg Fin.val h) (show ¬(0 : Nat) = 3 by decide)) _ _
  | ⟨1, _⟩ => exact Function.update_of_ne (fun h => absurd (congrArg Fin.val h) (show ¬(1 : Nat) = 3 by decide)) _ _
  | ⟨2, _⟩ => exact Function.update_of_ne (fun h => absurd (congrArg Fin.val h) (show ¬(2 : Nat) = 3 by decide)) _ _
  | ⟨3, _⟩ => exact Function.update_self _ _ _

theorem sort_lags {α β : Type} (cmp : α × β → α × β → BitVec 1) (x : S4x64x8x128.Idx → α) (y : S4x64x8x128.Idx → β) (b : Fin 4) (n : Fin 64) (h : Fin 8) (t : Fin 128) :
    (Host.sort2 S4x64x8x128 3 cmp x y).1 (ix4 b n h t) = x (ix4 b n h (sortedFrom (fun k k' => cmp (x (ix4 b n h k), y (ix4 b n h k)) (x (ix4 b n h k'), y (ix4 b n h k')) == 1#1) t))
    ∧ (Host.sort2 S4x64x8x128 3 cmp x y).2 (ix4 b n h t) = y (ix4 b n h (sortedFrom (fun k k' => cmp (x (ix4 b n h k), y (ix4 b n h k)) (x (ix4 b n h k'), y (ix4 b n h k')) == 1#1) t)) :=
  ⟨congrArg (fun f : Fin 128 → S4x64x8x128.Idx => x (f (sortedFrom (fun k k' => cmp (x (f k), y (f k)) (x (f k'), y (f k')) == 1#1) t))) (along3 b n h t),
    congrArg (fun f : Fin 128 → S4x64x8x128.Idx => y (f (sortedFrom (fun k k' => cmp (x (f k), y (f k)) (x (f k'), y (f k')) == 1#1) t))) (along3 b n h t)⟩

theorem slice_lags {α : Type} (x : S4x64x8x128.Idx → α) (b : Fin 4) (n : Fin 64) (h : Fin 8) (s : Fin 2) :
    extractStridedSlice S4x64x8x2 (fun _ => 0) x sliceFits_S4x64x8x128_S4x64x8x2 (ix4 b n h s) = x (ix4 b n h ⟨s.val, by omega⟩) := by
  refine congrArg x ?_
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

theorem top_weight (corr : FVec Ideal S4x64x8x128 .f32) (b : Fin 4) (n : Fin 64) (h : Fin 8) (s : Fin 2) :
    (top corr).1 (ix4 b n h s) = row corr b n h (ValueSort.order (row corr b n h) ⟨s.val, by omega⟩) :=
  (slice_lags (Host.sort2 S4x64x8x128 3 (fun l r => FloatOps.cmpfTotal (F := Ideal) (φ := .f32) .gt l.1 r.1) corr (fun i => if hd : 3 < S4x64x8x128.rank then iotaInDim S4x64x8x128 32 ⟨3, hd⟩ i else 0#32)).1 b n h s).trans
    (sort_lags (fun l r => FloatOps.cmpfTotal (F := Ideal) (φ := .f32) .gt l.1 r.1) corr _ b n h ⟨s.val, by omega⟩).1

theorem top_lag (corr : FVec Ideal S4x64x8x128 .f32) (b : Fin 4) (n : Fin 64) (h : Fin 8) (s : Fin 2) :
    (top corr).2 (ix4 b n h s) = BitVec.ofNat 32 (ValueSort.order (row corr b n h) ⟨s.val, by omega⟩).val :=
  (slice_lags (Host.sort2 S4x64x8x128 3 (fun l r => FloatOps.cmpfTotal (F := Ideal) (φ := .f32) .gt l.1 r.1) corr (fun i => if hd : 3 < S4x64x8x128.rank then iotaInDim S4x64x8x128 32 ⟨3, hd⟩ i else 0#32)).2 b n h s).trans
    (sort_lags (fun l r => FloatOps.cmpfTotal (F := Ideal) (φ := .f32) .gt l.1 r.1) corr (fun i => if hd : 3 < S4x64x8x128.rank then iotaInDim S4x64x8x128 32 ⟨3, hd⟩ i else 0#32) b n h ⟨s.val, by omega⟩).2

theorem along1 (g : Fin 32) (n : Fin 64) :
    (fun k : Fin 64 => Shape.Idx.along (s := S32x64) (ix2 g n) 1 k) = fun k => ix2 g k := by
  funext k a
  match a with
  | ⟨0, _⟩ => exact Function.update_of_ne (fun h => absurd (congrArg Fin.val h) (show ¬(0 : Nat) = 1 by decide)) _ _
  | ⟨1, _⟩ => exact Function.update_self _ _ _

/-- The positions that sort a row of words. -/
def sorter (x : IVec S32x64 32) : IVec S32x64 32 := (Host.sort2 S32x64 1 comparator_i32_i32_d1 x (iotaInDim S32x64 32 1)).2

/-- The permutation that sorts one row of words. -/
def sortPerm (x : IVec S32x64 32) (g : Fin 32) : Fin 64 → Fin 64 :=
  sortedFrom fun k k' => IntOp.cmpi .slt (x (ix2 g k)) (x (ix2 g k')) == 1#1

theorem sorter_at (x : IVec S32x64 32) (g : Fin 32) (n : Fin 64) : sorter x (ix2 g n) = BitVec.ofNat 32 (sortPerm x g n).val :=
  congrArg (fun f : Fin 64 → S32x64.Idx => iotaInDim S32x64 32 1 (f (sortedFrom (fun k k' => IntOp.cmpi .slt (x (f k)) (x (f k')) == 1#1) n))) (along1 g n)

theorem sorter_sorter_at (x : IVec S32x64 32) (g : Fin 32) (n : Fin 64) :
    sortPerm x g (sortPerm (sorter x) g n) = n := by
  have h : sortPerm (sorter x) g = sortedFrom fun k k' => IntOp.cmpi .slt (BitVec.ofNat 32 (sortPerm x g k).val) (BitVec.ofNat 32 (sortPerm x g k').val) == 1#1 := by
    unfold sortPerm
    simp only [sorter_at]
    rfl
  rw [h]
  exact ValueSort.sort_words_inv _ (sortedFrom_injective _) n

/-- Positions along time: a delay added to each time. -/
def shiftPos (d : IVec S4x64x8 32) : IVec S4x64x8x32x128 32 :=
  addi (broadcastInDim S4x64x8x32x128 ![0, 1, 2, 3, 4] bcast_S1x1x1x1x128_S4x64x8x32x128_0_1_2_3_4 (broadcastInDim S1x1x1x1x128 ![4] bcast_S128_S1x1x1x1x128_4 (iotaInDim S128 32 0))) (broadcastInDim S4x64x8x32x128 ![0, 1, 2, 3, 4] bcast_S4x64x8x1x1_S4x64x8x32x128_0_1_2_3_4 (broadcastInDim S4x64x8x1x1 ![0, 1, 2] bcast_S4x64x8_S4x64x8x1x1_0_1_2 d))

theorem shiftPos_at (d : IVec S4x64x8 32) (b : Fin 4) (n : Fin 64) (h : Fin 8) (e : Fin 32) (l : Fin 128) (k : Nat) (hd : d (ix3 b n h) = BitVec.ofNat 32 k) :
    shiftPos d (ix5 b n h e l) = BitVec.ofNat 32 (l.val + k) := by
  pointwise [shiftPos, hd]
  rw [BitVec.ofNat_add]
  rfl

/-- A row of words spread over the channels and times. -/
def spread (x : IVec S32x64 32) : IVec S32x64x32x128 32 :=
  broadcastInDim S32x64x32x128 ![0, 1, 2, 3] bcast_S32x64x1x1_S32x64x32x128_0_1_2_3 (broadcastInDim S32x64x1x1 ![0, 1] bcast_S32x64_S32x64x1x1_0_1 x)

theorem spread_at (x : IVec S32x64 32) (g : Fin 32) (n : Fin 64) (e : Fin 32) (l : Fin 128) : spread x (ix4 g n e l) = x (ix2 g n) := by
  pointwise [spread]

/-- The aligned values times the sigmoid of their weight, by batch and head. -/
def weighted (x : FVec Ideal S4x64x8x32x128 .f32) (w : FVec Ideal S32x64 .f32) : FVec Ideal S32x64x32x128 .f32 :=
  mulf (shapeCast _ (transpose S4x8x64x32x128 [0, 2, 1, 3, 4] x transposes_S4x64x8x32x128_S4x8x64x32x128_0_2_1_3_4) shapeCasts_S4x8x64x32x128_S32x64x32x128) (broadcastInDim S32x64x32x128 ![0, 1, 2, 3] bcast_S32x64x1x1_S32x64x32x128_0_1_2_3 (broadcastInDim S32x64x1x1 ![0, 1] bcast_S32x64_S32x64x1x1_0_1 (Host.divf (broadcastInDim S32x64 ![] bcast_S_S32x64 (constant S_ .f32 0x3F800000#32)) (addf (broadcastInDim S32x64 ![] bcast_S_S32x64 (constant S_ .f32 0x3F800000#32)) (Host.exp (Host.negf w))))))

/-- Sorted by node, sorted back, and laid out by batch, node and head again. -/
def through (x : FVec Ideal S4x64x8x32x128 .f32) (w : FVec Ideal S32x64 .f32) (d : IVec S32x64 32) : FVec Ideal S4x64x8x32x128 .f32 :=
  transpose S4x64x8x32x128 [0, 2, 1, 3, 4] (shapeCast _ (nodeTake (shapeCast _ (transpose S32x64x4096 [0, 2, 1] (transpose S32x4096x64 [0, 2, 1] (shapeCast _ (nodeTake (weighted x w) (spread (sorter d))) shapeCasts_S32x64x32x128_S32x64x4096) transposes_S32x64x4096_S32x4096x64_0_2_1) transposes_S32x4096x64_S32x64x4096_0_2_1) shapeCasts_S32x64x4096_S32x64x32x128) (spread (sorter (sorter d)))) shapeCasts_S32x64x32x128_S4x8x64x32x128) transposes_S4x8x64x32x128_S4x64x8x32x128_0_2_1_3_4

/-- The place of a batch and head among the batches and heads. -/
def bh (b : Fin 4) (h : Fin 8) : Fin 32 := ⟨b.val * 8 + h.val, by omega⟩

theorem weighted_at (x : FVec Ideal S4x64x8x32x128 .f32) (w : FVec Ideal S32x64 .f32) (b : Fin 4) (n : Fin 64) (h : Fin 8) (e : Fin 32) (l : Fin 128) :
    weighted x w (ix4 (bh b h) n e l) = x (ix5 b n h e l) * Ideal.logistic (w (ix2 (bh b h) n)) := by
  have h1 : (⟨(bh b h).val / 8, by simp only [bh]; omega⟩ : Fin 4) = b := Fin.ext (by simp only [bh]; omega)
  have h2 : (⟨(bh b h).val % 8, Nat.mod_lt _ (by decide)⟩ : Fin 8) = h := Fin.ext (by simp only [bh]; omega)
  pointwise [weighted]
  simp only [h1, h2]
  rfl

theorem nodes_back (x : FVec Ideal S32x64x32x128 .f32) (d : IVec S32x64 32) (g : Fin 32) (n : Fin 64) (e : Fin 32) (l : Fin 128) :
    nodeTake (shapeCast _ (transpose S32x64x4096 [0, 2, 1] (transpose S32x4096x64 [0, 2, 1] (shapeCast _ (nodeTake x (spread (sorter d))) shapeCasts_S32x64x32x128_S32x64x4096) transposes_S32x64x4096_S32x4096x64_0_2_1) transposes_S32x4096x64_S32x64x4096_0_2_1) shapeCasts_S32x64x4096_S32x64x32x128) (spread (sorter (sorter d))) (ix4 g n e l)
      = x (ix4 g n e l) := by
  rw [nodeTake_at _ _ g n e l (sortPerm (sorter d) g n) ((spread_at _ g n e l).trans (sorter_at _ g n))]
  pointwise []
  rw [nodeTake_at _ _ g _ e l (sortPerm d g (sortPerm (sorter d) g n)) ((spread_at _ g _ e l).trans (sorter_at _ g _)), sorter_sorter_at]

/-- Sorting by node and back changes nothing. -/
theorem through_at (x : FVec Ideal S4x64x8x32x128 .f32) (w : FVec Ideal S32x64 .f32) (d : IVec S32x64 32) (b : Fin 4) (n : Fin 64) (h : Fin 8) (e : Fin 32) (l : Fin 128) :
    through x w d (ix5 b n h e l) = x (ix5 b n h e l) * Ideal.logistic (w (ix2 (bh b h) n)) := by
  refine Eq.trans (b := weighted x w (ix4 (bh b h) n e l)) ?_ (weighted_at x w b n h e l)
  rw [← nodes_back (weighted x w) d (bh b h) n e l]
  unfold through
  generalize nodeTake _ _ = y
  pointwise [bh]

/-- Aligned by a lag, carried through, and aligned back: the values times the sigmoid. -/
theorem roundtrip (x : FVec Ideal S4x64x8x32x128 .f32) (w : FVec Ideal S32x64 .f32) (g : IVec S32x64 32) (d d' : IVec S4x64x8 32) (τ : Fin 128)
    (b : Fin 4) (n : Fin 64) (h : Fin 8) (e : Fin 32) (l : Fin 128) (hd : d (ix3 b n h) = BitVec.ofNat 32 (128 - τ.val)) (hd' : d' (ix3 b n h) = BitVec.ofNat 32 τ.val) :
    timeTake (through (timeTake x (shiftPos d)) w g) (shiftPos d') (ix5 b n h e l) = x (ix5 b n h e l) * Ideal.logistic (w (ix2 (bh b h) n)) := by
  rw [timeTake_at _ _ b n h e l (l.val + τ.val) (by omega) (shiftPos_at d' b n h e l _ hd'), through_at,
    timeTake_at _ _ b n h e _ ((l.val + τ.val) % 128 + (128 - τ.val)) (by omega) (shiftPos_at d b n h e _ _ hd)]
  have : (⟨((l.val + τ.val) % 128 + (128 - τ.val)) % 128, Nat.mod_lt _ (by decide)⟩ : Fin 128) = l := Fin.ext (by dsimp only; omega)
  rw [this]

end Cert.ReferenceIdeal.Own
-- ==== Proof.Value.Ref.lean ====
module

public import proofs.«01_k».proof.Proof.Value.Path
public import Idealize.ShloMosaic.Lib.Pointwise

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.SL.Sem Idealize.ShloMosaic.StableHlo

/-! # The reference's result, read at an index -/

attribute [local irreducible] sortedFrom

/-- The difference of two small words. -/
theorem word_sub (k : Nat) (hk : k ≤ 128) : 128#32 - BitVec.ofNat 32 k = BitVec.ofNat 32 (128 - k) := by
  apply BitVec.eq_of_toNat_eq
  rw [BitVec.toNat_sub, BitVec.toNat_ofNat, BitVec.toNat_ofNat, BitVec.toNat_ofNat]
  have h1 : k % 2 ^ 32 = k := Nat.mod_eq_of_lt (by omega)
  have h2 : (128 - k) % 2 ^ 32 = 128 - k := Nat.mod_eq_of_lt (by omega)
  rw [h1, h2]
  show (2 ^ 32 - k + 128) % 2 ^ 32 = 128 - k
  omega

variable (V0 : Valuation τ sig (Elt Ideal))

/-- The reference's correlations. -/
abbrev corrOf : FVec Ideal S4x64x8x128 .f32 := res_main_v38 V0

/-- The lag of rank `s` at one batch, node and head. -/
def lag (b : Fin 4) (n : Fin 64) (h : Fin 8) (s : Fin 2) : Fin 128 := ValueSort.order (row (corrOf V0) b n h) ⟨s.val, by omega⟩

theorem delay_at (b : Fin 4) (n : Fin 64) (h : Fin 8) (s : Fin 2) : res_main_v40 V0 (ix4 b n h s) = BitVec.ofNat 32 (128 - (lag V0 b n h s).val) := by
  have ht : (Host.topK S4x64x8x2 3 (FloatOps.cmpfTotal (F := Ideal) (φ := .f32) .gt) (res_main_v38 V0) sliceFits_S4x64x8x128_S4x64x8x2).2 (ix4 b n h s) = BitVec.ofNat 32 (lag V0 b n h s).val := top_lag (res_main_v38 V0) b n h s
  rw [← word_sub _ (by omega), ← ht]
  generalize hg : (Host.topK S4x64x8x2 3 (FloatOps.cmpfTotal (F := Ideal) (φ := .f32) .gt) (res_main_v38 V0) sliceFits_S4x64x8x128_S4x64x8x2).2 = y
  unfold res_main_v40
  rw [hg]
  pointwise []
  rfl

theorem delay_flat_at (b : Fin 4) (n : Fin 64) (h : Fin 8) (s : Fin 2) : res_main_v55 V0 (ix3 (bh b h) n s) = BitVec.ofNat 32 (128 - (lag V0 b n h s).val) := by
  rw [← delay_at]
  unfold res_main_v55
  generalize (res_main_v40 V0) = y
  have h1 : (⟨(bh b h).val / 8, by simp only [bh]; omega⟩ : Fin 4) = b := Fin.ext (by simp only [bh]; omega)
  have h2 : (⟨(bh b h).val % 8, Nat.mod_lt _ (by decide)⟩ : Fin 8) = h := Fin.ext (by simp only [bh]; omega)
  pointwise []
  simp only [h1, h2]

theorem weight_flat_at (b : Fin 4) (n : Fin 64) (h : Fin 8) (s : Fin 2) : res_main_v57 V0 (ix3 (bh b h) n s) = row (corrOf V0) b n h (lag V0 b n h s) := by
  rw [lag, ← top_weight]
  have h1 : (⟨(bh b h).val / 8, by simp only [bh]; omega⟩ : Fin 4) = b := Fin.ext (by simp only [bh]; omega)
  have h2 : (⟨(bh b h).val % 8, Nat.mod_lt _ (by decide)⟩ : Fin 8) = h := Fin.ext (by simp only [bh]; omega)
  unfold res_main_v57 top
  generalize (Host.topK S4x64x8x2 3 (FloatOps.cmpfTotal (F := Ideal) (φ := .f32) .gt) (res_main_v38 V0) sliceFits_S4x64x8x128_S4x64x8x2).1 = y
  pointwise []
  simp only [h1, h2]

theorem delay_back_at (b : Fin 4) (n : Fin 64) (h : Fin 8) (s : Fin 2) : res_main_v119 V0 (ix4 b n h s) = BitVec.ofNat 32 (lag V0 b n h s).val := by
  have hf := delay_flat_at V0 b n h s
  have hw : BitVec.ofNat 32 (lag V0 b n h s).val = 128#32 - res_main_v55 V0 (ix3 (bh b h) n s) := by
    rw [hf, word_sub _ (by omega)]
    congr 1
    omega
  rw [hw]
  unfold res_main_v119
  generalize (res_main_v55 V0) = y
  pointwise [bh]
  rfl

/-- One branch: the values times the sigmoid of the weight of rank 0. -/
theorem branch0 (b : Fin 4) (n : Fin 64) (h : Fin 8) (e : Fin 32) (l : Fin 128) :
    timeTake (res_main_v86 V0) (res_main_v125 V0) (ix5 b n h e l)
      = (show FVec Ideal S4x64x8x32x128 .f32 from res_main_v32 V0) (ix5 b n h e l) * Ideal.logistic (row (corrOf V0) b n h (lag V0 b n h 0)) := by
  have hd : (shapeCast S4x64x8 (extractStridedSlice S4x64x8x1 ![0, 0, 0, 0] (res_main_v40 V0) slices_S4x64x8x2_S4x64x8x1_0_0_0_0) shapeCasts_S4x64x8x1_S4x64x8) (ix3 b n h) = BitVec.ofNat 32 (128 - (lag V0 b n h 0).val) := by
    rw [← delay_at]
    generalize (res_main_v40 V0) = y
    pointwise []
  have hd' : (shapeCast S4x64x8 (extractStridedSlice S4x64x8x1 ![0, 0, 0, 0] (res_main_v119 V0) slices_S4x64x8x2_S4x64x8x1_0_0_0_0) shapeCasts_S4x64x8x1_S4x64x8) (ix3 b n h) = BitVec.ofNat 32 (lag V0 b n h 0).val := by
    rw [← delay_back_at]
    generalize (res_main_v119 V0) = y
    pointwise []
  have hw : (shapeCast S32x64 (extractStridedSlice S32x64x1 ![0, 0, 0] (res_main_v57 V0) slices_S32x64x2_S32x64x1_0_0_0) shapeCasts_S32x64x1_S32x64) (ix2 (bh b h) n) = row (corrOf V0) b n h (lag V0 b n h 0) := by
    rw [← weight_flat_at]
    generalize (res_main_v57 V0) = y
    pointwise []
  rw [← hw]
  exact roundtrip (res_main_v32 V0) _ (res_main_v59 V0) _ _ (lag V0 b n h 0) b n h e l hd hd'

/-- One branch: the values times the sigmoid of the weight of rank 1. -/
theorem branch1 (b : Fin 4) (n : Fin 64) (h : Fin 8) (e : Fin 32) (l : Fin 128) :
    timeTake (res_main_v115 V0) (res_main_v132 V0) (ix5 b n h e l)
      = (show FVec Ideal S4x64x8x32x128 .f32 from res_main_v32 V0) (ix5 b n h e l) * Ideal.logistic (row (corrOf V0) b n h (lag V0 b n h 1)) := by
  have hd : (shapeCast S4x64x8 (extractStridedSlice S4x64x8x1 ![0, 0, 0, 1] (res_main_v40 V0) slices_S4x64x8x2_S4x64x8x1_0_0_0_1) shapeCasts_S4x64x8x1_S4x64x8) (ix3 b n h) = BitVec.ofNat 32 (128 - (lag V0 b n h 1).val) := by
    rw [← delay_at]
    generalize (res_main_v40 V0) = y
    pointwise []
  have hd' : (shapeCast S4x64x8 (extractStridedSlice S4x64x8x1 ![0, 0, 0, 1] (res_main_v119 V0) slices_S4x64x8x2_S4x64x8x1_0_0_0_1) shapeCasts_S4x64x8x1_S4x64x8) (ix3 b n h) = BitVec.ofNat 32 (lag V0 b n h 1).val := by
    rw [← delay_back_at]
    generalize (res_main_v119 V0) = y
    pointwise []
  have hw : (shapeCast S32x64 (extractStridedSlice S32x64x1 ![0, 0, 1] (res_main_v57 V0) slices_S32x64x2_S32x64x1_0_0_1) shapeCasts_S32x64x1_S32x64) (ix2 (bh b h) n) = row (corrOf V0) b n h (lag V0 b n h 1) := by
    rw [← weight_flat_at]
    generalize (res_main_v57 V0) = y
    pointwise []
  rw [← hw]
  exact roundtrip (res_main_v32 V0) _ (res_main_v88 V0) _ _ (lag V0 b n h 1) b n h e l hd hd'

/-- The mean of two arrays, laid out by time again. -/
def meanOf (y0 y1 : FVec Ideal S4x64x8x32x128 .f32) : FVec Ideal S4x64x128x8x32 .f32 :=
  transpose S4x64x128x8x32 [0, 1, 4, 2, 3] (Host.divf (Host.reduceAdd (concatenate S2x4x64x8x32x128 0 [⟨S1x4x64x8x32x128, (broadcastInDim S1x4x64x8x32x128 ![1, 2, 3, 4, 5] bcast_S4x64x8x32x128_S1x4x64x8x32x128_1_2_3_4_5 y0)⟩, ⟨S1x4x64x8x32x128, (broadcastInDim S1x4x64x8x32x128 ![1, 2, 3, 4, 5] bcast_S4x64x8x32x128_S1x4x64x8x32x128_1_2_3_4_5 y1)⟩] concatenates_S1x4x64x8x32x128_S1x4x64x8x32x128_S2x4x64x8x32x128_d0) (constant S_ .f32 0x00000000#32) reducesTo_S2x4x64x8x32x128_S4x64x8x32x128_d0 h_S_) (broadcastInDim S4x64x8x32x128 ![] bcast_S_S4x64x8x32x128 (constant S_ .f32 0x40000000#32))) transposes_S4x64x8x32x128_S4x64x128x8x32_0_1_4_2_3

/-- The sum over the leading axis of extent two. -/
theorem pair_sum (X : FVec Ideal S2x4x64x8x32x128 .f32) (b : Fin 4) (n : Fin 64) (h : Fin 8) (e : Fin 32) (l : Fin 128) :
    Ideal.hostReduceAdd reducesTo_S2x4x64x8x32x128_S4x64x8x32x128_d0 X 0 (ix5 b n h e l) = X (ix6 0 b n h e l) + X (ix6 1 b n h e l) := by
  classical
  have hf : Finset.univ.filter (fun i => reducesTo_S2x4x64x8x32x128_S4x64x8x32x128_d0.drop i = ix5 b n h e l) = ({ix6 0 b n h e l, ix6 1 b n h e l} : Finset S2x4x64x8x32x128.Idx) := by
    ext i
    rw [Finset.mem_filter, Finset.mem_insert, Finset.mem_singleton]
    constructor
    · intro hi
      have hi := hi.2
      have h6 : i = ix6 (i 0) b n h e l := by
        funext a
        match a with
        | ⟨0, _⟩ => rfl
        | ⟨1, _⟩ => exact congrFun hi 0
        | ⟨2, _⟩ => exact congrFun hi 1
        | ⟨3, _⟩ => exact congrFun hi 2
        | ⟨4, _⟩ => exact congrFun hi 3
        | ⟨5, _⟩ => exact congrFun hi 4
      have h2 : ∀ z : Fin 2, z = 0 ∨ z = 1 := by decide
      rcases h2 (i 0) with h0 | h0
      · exact Or.inl (h6.trans (congrArg (fun z : Fin 2 => ix6 z b n h e l) h0))
      · exact Or.inr (h6.trans (congrArg (fun z : Fin 2 => ix6 z b n h e l) h0))
    · intro hi
      refine ⟨Finset.mem_univ _, ?_⟩
      rcases hi with rfl | rfl
      all_goals
        funext a
        match a with
        | ⟨0, _⟩ => rfl
        | ⟨1, _⟩ => rfl
        | ⟨2, _⟩ => rfl
        | ⟨3, _⟩ => rfl
        | ⟨4, _⟩ => rfl
  unfold Ideal.hostReduceAdd
  rw [hf, Finset.sum_pair (fun h => absurd (congrFun h 0) (show ¬(0 : Fin 2) = 1 by decide)), zero_add]

theorem meanOf_at (y0 y1 : FVec Ideal S4x64x8x32x128 .f32) (b : Fin 4) (n : Fin 64) (l : Fin 128) (h : Fin 8) (e : Fin 32) :
    meanOf y0 y1 (ix5 b n l h e) = Ideal.div (y0 (ix5 b n h e l) + y1 (ix5 b n h e l)) (Ideal.ofBits .f32 0x40000000#32) := by
  pointwise [meanOf]
  rw [pair_sum]
  pointwise []

/-- The reference's result. -/
def refOut : FVec Ideal S4x64x128x8x32 .f32 :=
  meanOf (timeTake (res_main_v86 V0) (res_main_v125 V0)) (timeTake (res_main_v115 V0) (res_main_v132 V0))

theorem values_at (b : Fin 4) (n : Fin 64) (h : Fin 8) (e : Fin 32) (l : Fin 128) :
    res_main_v32 V0 (ix5 b n h e l) = (V0 (Proc.devRef .tc main_arg2) : FVec Ideal S4x64x128x8x32 .f32) (ix5 b n l h e) := by
  unfold res_main_v32
  generalize (V0 (Proc.devRef .tc main_arg2) : FVec Ideal S4x64x128x8x32 .f32) = y
  pointwise []

/-- The reference's run, with its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := run m ρ

end Cert.ReferenceIdeal.Own
-- ==== Proof.Value.Tables.lean ====
module

public import proofs.«01_k».proof.Proof.Value.Kernel
public import proofs.«01_k».proof.Proof.Value.Ref
public import Idealize.ShloMosaic.Lib.IdealHost

@[expose] public section

set_option maxRecDepth 16384

noncomputable section

namespace Cert.Tables

open Idealize.ShloMosaic

/-! # The literal tables as real numbers

The reference holds the cosines and the sines of 128 times and 65 frequencies and the weights of the frequencies. The kernel
holds the same words in a padded table, and a second table whose words are the weighted cosines and the negated weighted sines,
divided by 4096: their words differ from the first table's in the exponent and the sign alone, so the real numbers are exact
multiples. -/

/-- The sign, exponent and fraction fields of a single-precision word. -/
def signOf (b : BitVec 32) : Bool := b.extractLsb' 31 1 == 1#1
def expOf (b : BitVec 32) : Nat := (b.extractLsb' 23 8).toNat
def fracOf (b : BitVec 32) : Nat := (b.extractLsb' 0 23).toNat

/-- The second word is the first with its exponent lowered by `d`, its sign turned if `flip`; a zero stays a zero. -/
def scaled (w w' : BitVec 32) (d : Nat) (flip : Bool) : Bool :=
  (expOf w == 0 && fracOf w == 0 && expOf w' == 0 && fracOf w' == 0)
    || (expOf w != 255 && expOf w' != 0 && expOf w == expOf w' + d && fracOf w == fracOf w' && signOf w' == xor (signOf w) flip)

/-- The real number of a word that is neither an infinity nor a NaN. -/
theorem word_real (w : BitVec 32) (h : expOf w ≠ 255) : Ideal.ofBits .f32 w = (((Ideal.ofBits .f32 w).toReal : ℝ) : EReal) := by
  have h' : ¬ (w.extractLsb' 23 8).toNat = 255 := h
  unfold Ideal.ofBits Ideal.ieee
  simp only [h', if_false, show (2 : Nat) ^ 8 - 1 = 255 from rfl]
  split
  all_goals rw [EReal.toReal_coe]

/-- Lowering the exponent divides by a power of two. -/
theorem scaled_real (w w' : BitVec 32) (d : Nat) (flip : Bool) (h : scaled w w' d flip = true) :
    Ideal.ofBits .f32 w' = ((((if flip then -1 else 1) * (Ideal.ofBits .f32 w).toReal / 2 ^ d : ℝ)) : EReal) := by
  unfold scaled at h
  rw [Bool.or_eq_true] at h
  simp only [Bool.and_eq_true, beq_iff_eq, bne_iff_ne, ne_eq] at h
  rcases h with ⟨⟨⟨h1, h2⟩, h3⟩, h4⟩ | ⟨⟨⟨⟨h1, h2⟩, h3⟩, h4⟩, h5⟩
  · have a1 : (w.extractLsb' 23 8).toNat = 0 := h1
    have a2 : (w.extractLsb' 0 23).toNat = 0 := h2
    have a3 : (w'.extractLsb' 23 8).toNat = 0 := h3
    have a4 : (w'.extractLsb' 0 23).toNat = 0 := h4
    simp [Ideal.ofBits, Ideal.ieee, a1, a2, a3, a4]
  · have b1 : ¬ (w.extractLsb' 23 8).toNat = 255 := h1
    have b2 : ¬ (w'.extractLsb' 23 8).toNat = 0 := h2
    have b3 : (w.extractLsb' 23 8).toNat = (w'.extractLsb' 23 8).toNat + d := h3
    have b4 : (w.extractLsb' 0 23).toNat = (w'.extractLsb' 0 23).toNat := h4
    have b5 : (w'.extractLsb' 31 1 == 1#1) = xor (w.extractLsb' 31 1 == 1#1) flip := h5
    have lt : (w.extractLsb' 23 8).toNat < 256 := (w.extractLsb' 23 8).isLt
    have b6 : ¬ (w'.extractLsb' 23 8).toNat = 255 := by omega
    have b7 : ¬ (w.extractLsb' 23 8).toNat = 0 := by omega
    unfold Ideal.ofBits Ideal.ieee
    simp only [b1, b2, b6, b7, if_false, show (2 : Nat) ^ 8 - 1 = 255 from rfl, show (8 : Nat) + 23 = 31 from rfl, b5, EReal.toReal_coe]
    rw [EReal.coe_eq_coe_iff, b3, b4]
    have hz : (2 : ℝ) ^ ((((w'.extractLsb' 23 8).toNat + d : Nat) : Int) - (2 ^ (8 - 1) - 1) - (23 : Nat))
        = 2 ^ (((w'.extractLsb' 23 8).toNat : Int) - (2 ^ (8 - 1) - 1) - (23 : Nat)) * 2 ^ d := by
      rw [← zpow_natCast (2 : ℝ) d, ← zpow_add₀ (by norm_num)]
      congr 1
      push_cast
      ring
    rw [hz]
    have hd : (2 : ℝ) ^ d ≠ 0 := by positivity
    generalize (2 : ℝ) ^ (((w'.extractLsb' 23 8).toNat : Int) - (2 ^ (8 - 1) - 1) - (23 : Nat)) = z
    cases flip <;> cases (w.extractLsb' 31 1 == 1#1) <;> simp <;> field_simp <;> ring

/-! ## The words, compared -/

/-- The words of a time in the kernel's first table are the reference's cosines and sines, and zeros beside them. -/
def rowCS (t : Nat) : Bool :=
  (List.range 65).all (fun f => Nat.beq (Cert.KernelIdeal.lit0t (t * 144 + f)).toNat (Cert.ReferenceIdeal.lit0t (t * 65 + f)).toNat
      && Nat.beq (Cert.KernelIdeal.lit0t (t * 144 + (72 + f))).toNat (Cert.ReferenceIdeal.lit1t (t * 65 + f)).toNat)
    && (List.range 7).all (fun g => Nat.beq (Cert.KernelIdeal.lit0t (t * 144 + (65 + g))).toNat 0
      && Nat.beq (Cert.KernelIdeal.lit0t (t * 144 + (137 + g))).toNat 0)

/-- The exponent's fall in the second table: the weight is two strictly between the first and the last frequency. -/
def fall (f : Nat) : Nat := if f = 0 ∨ f = 64 then 12 else 11

/-- The words of a time in the kernel's second table are the reference's, scaled, and zeros beside them. -/
def rowCI (t : Nat) : Bool :=
  (List.range 65).all (fun f => scaled (Cert.ReferenceIdeal.lit0t (t * 65 + f)) (Cert.KernelIdeal.lit1t (f * 128 + t)) (fall f) false
      && scaled (Cert.ReferenceIdeal.lit1t (t * 65 + f)) (Cert.KernelIdeal.lit1t ((72 + f) * 128 + t)) (fall f) true)
    && (List.range 7).all (fun g => Nat.beq (Cert.KernelIdeal.lit1t ((65 + g) * 128 + t)).toNat 0
      && Nat.beq (Cert.KernelIdeal.lit1t ((137 + g) * 128 + t)).toNat 0)

/-- The words of a column in the kernel's indicator table. -/
def rowR (x : Nat) : Bool :=
  (List.range 8).all fun h => Nat.beq (Cert.KernelIdeal.lit2t (x * 128 + h)).toNat (if x / 32 = h then 0x3F800000 else 0)

theorem rowCS0 : (List.range' 0 32).all rowCS = true := by decide +kernel
theorem rowCS1 : (List.range' 32 32).all rowCS = true := by decide +kernel
theorem rowCS2 : (List.range' 64 32).all rowCS = true := by decide +kernel
theorem rowCS3 : (List.range' 96 32).all rowCS = true := by decide +kernel
theorem rowCI0 : (List.range' 0 32).all rowCI = true := by decide +kernel
theorem rowCI1 : (List.range' 32 32).all rowCI = true := by decide +kernel
theorem rowCI2 : (List.range' 64 32).all rowCI = true := by decide +kernel
theorem rowCI3 : (List.range' 96 32).all rowCI = true := by decide +kernel
theorem rowR_all : (List.range' 0 256).all rowR = true := by decide +kernel

/-- Four ranges of 32 are the 128 times. -/
theorem of_ranges (p : Nat → Bool) (h0 : (List.range' 0 32).all p = true) (h1 : (List.range' 32 32).all p = true)
    (h2 : (List.range' 64 32).all p = true) (h3 : (List.range' 96 32).all p = true) (t : Fin 128) : p t.val = true := by
  rw [List.all_eq_true] at h0 h1 h2 h3
  rcases lt_or_ge t.val 32 with h | h
  · exact h0 _ (List.mem_range'_1.mpr (by omega))
  rcases lt_or_ge t.val 64 with h' | h'
  · exact h1 _ (List.mem_range'_1.mpr (by omega))
  rcases lt_or_ge t.val 96 with h'' | h''
  · exact h2 _ (List.mem_range'_1.mpr (by omega))
  · exact h3 _ (List.mem_range'_1.mpr (by omega))

/-- The reference's words. -/
abbrev wordC (t : Fin 128) (f : Fin 65) : BitVec 32 := Cert.ReferenceIdeal.lit0 ⟨t.val * 65 + f.val, by omega⟩
abbrev wordS (t : Fin 128) (f : Fin 65) : BitVec 32 := Cert.ReferenceIdeal.lit1 ⟨t.val * 65 + f.val, by omega⟩
/-- The kernel's words. -/
abbrev wordCS (t : Fin 128) (f : Fin 144) : BitVec 32 := Cert.KernelIdeal.lit0 ⟨t.val * 144 + f.val, by omega⟩
abbrev wordCI (f : Fin 144) (t : Fin 128) : BitVec 32 := Cert.KernelIdeal.lit1 ⟨f.val * 128 + t.val, by omega⟩
abbrev wordR (x : Fin 256) (h : Fin 128) : BitVec 32 := Cert.KernelIdeal.lit2 ⟨x.val * 128 + h.val, by omega⟩

theorem eq_of_beq {a b : BitVec 32} (h : Nat.beq a.toNat b.toNat = true) : a = b := BitVec.eq_of_toNat_eq (Nat.eq_of_beq_eq_true h)

theorem words_CS (t : Fin 128) (f : Fin 65) : wordCS t ⟨f.val, by omega⟩ = wordC t f ∧ wordCS t ⟨72 + f.val, by omega⟩ = wordS t f := by
  have h := of_ranges rowCS rowCS0 rowCS1 rowCS2 rowCS3 t
  unfold rowCS at h
  rw [Bool.and_eq_true, List.all_eq_true] at h
  have h' := h.1 f.val (List.mem_range.mpr f.isLt)
  rw [Bool.and_eq_true] at h'
  exact ⟨eq_of_beq h'.1, eq_of_beq h'.2⟩

theorem words_CS_pad (t : Fin 128) (g : Fin 7) : wordCS t ⟨65 + g.val, by omega⟩ = 0#32 ∧ wordCS t ⟨137 + g.val, by omega⟩ = 0#32 := by
  have h := of_ranges rowCS rowCS0 rowCS1 rowCS2 rowCS3 t
  unfold rowCS at h
  rw [Bool.and_eq_true] at h
  have h2 := h.2
  rw [List.all_eq_true] at h2
  have h' := h2 g.val (List.mem_range.mpr g.isLt)
  rw [Bool.and_eq_true] at h'
  exact ⟨eq_of_beq h'.1, eq_of_beq h'.2⟩

theorem words_CI (t : Fin 128) (f : Fin 65) : scaled (wordC t f) (wordCI ⟨f.val, by omega⟩ t) (fall f.val) false = true
    ∧ scaled (wordS t f) (wordCI ⟨72 + f.val, by omega⟩ t) (fall f.val) true = true := by
  have h := of_ranges rowCI rowCI0 rowCI1 rowCI2 rowCI3 t
  unfold rowCI at h
  rw [Bool.and_eq_true, List.all_eq_true] at h
  have h' := h.1 f.val (List.mem_range.mpr f.isLt)
  rw [Bool.and_eq_true] at h'
  exact ⟨h'.1, h'.2⟩

theorem words_CI_pad (t : Fin 128) (g : Fin 7) : wordCI ⟨65 + g.val, by omega⟩ t = 0#32 ∧ wordCI ⟨137 + g.val, by omega⟩ t = 0#32 := by
  have h := of_ranges rowCI rowCI0 rowCI1 rowCI2 rowCI3 t
  unfold rowCI at h
  rw [Bool.and_eq_true] at h
  have h2 := h.2
  rw [List.all_eq_true] at h2
  have h' := h2 g.val (List.mem_range.mpr g.isLt)
  rw [Bool.and_eq_true] at h'
  exact ⟨eq_of_beq h'.1, eq_of_beq h'.2⟩

theorem words_R (x : Fin 256) (h : Fin 8) : (wordR x ⟨h.val, by omega⟩).toNat = if x.val / 32 = h.val then 0x3F800000 else 0 := by
  have hr := rowR_all
  rw [List.all_eq_true] at hr
  have hx := hr x.val (List.mem_range'_1.mpr (by omega))
  unfold rowR at hx
  rw [List.all_eq_true] at hx
  exact Nat.eq_of_beq_eq_true (hx h.val (List.mem_range.mpr h.isLt))

theorem words_W : ∀ f : Fin 65, Cert.ReferenceIdeal.lit2 f = if f.val = 0 ∨ f.val = 64 then 0x3F800000#32 else 0x40000000#32 := by
  decide +kernel

end Cert.Tables
-- ==== Proof.Value.Algebra.lean ====
module

public import Idealize.ShloMosaic.Lib.IdealHost
public import Idealize.ShloMosaic.Lib.Pointwise

@[expose] public section

noncomputable section

namespace Cert.Algebra

/-! # The two correlations agree over the real numbers

Over the reals the mean over the channels and the inverse transform commute: both are finite sums of products. -/

/-- A finite sum of real numbers, read among the extended reals. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A table of 65 frequencies continued by zeros to 72. -/
def padded (a : Fin 65 → ℝ) (g : Fin 72) : ℝ := if h : g.val < 65 then a ⟨g.val, h⟩ else 0

/-- A sum over the padded frequencies whose terms vanish on the padding. -/
theorem sum_pad (F : Fin 72 → ℝ) (hF : ∀ g : Fin 7, F ⟨65 + g.val, by omega⟩ = 0) :
    ∑ g : Fin 72, F g = ∑ f : Fin 65, F ⟨f.val, by omega⟩ := by
  have h : ∑ g : Fin (65 + 7), F g = (∑ f : Fin 65, F ⟨f.val, by omega⟩) + ∑ g : Fin 7, F ⟨65 + g.val, by omega⟩ := Fin.sum_univ_add _
  rw [show ∑ g : Fin 72, F g = ∑ g : Fin (65 + 7), F g from rfl, h, Finset.sum_eq_zero (fun g _ => hF g), add_zero]

/-- The 144 rows are 72 and 72. -/
theorem sum_halves {M : Type} [AddCommMonoid M] (F : Fin 144 → M) :
    ∑ f : Fin 144, F f = (∑ g : Fin 72, F ⟨g.val, by omega⟩) + ∑ g : Fin 72, F ⟨72 + g.val, by omega⟩ :=
  Fin.sum_univ_add (a := 72) (b := 72) F

/-- Of the 256 columns the indicator of a head keeps that head's 32 channels. -/
theorem sum_head (F : Fin 256 → ℝ) (h : Fin 8) :
    ∑ x : Fin 256, F x * (if x.val / 32 = h.val then 1 else 0) = ∑ e : Fin 32, F ⟨h.val * 32 + e.val, by omega⟩ := by
  have ht : ∑ x : Fin (8 * 32), F x * (if x.val / 32 = h.val then 1 else 0)
      = ∑ i : Fin 8, ∑ e : Fin 32, F ⟨i.val * 32 + e.val, by omega⟩ * (if (i.val * 32 + e.val) / 32 = h.val then 1 else 0) := by
    rw [← Finset.sum_product', ← Finset.univ_product_univ.symm]
    refine (Fintype.sum_equiv finProdFinEquiv _ _ fun p => ?_).symm
    rcases p with ⟨i, e⟩
    have hv : (finProdFinEquiv (i, e) : Fin (8 * 32)).val = i.val * 32 + e.val := by
      simp [finProdFinEquiv]; omega
    have hx : (finProdFinEquiv (i, e) : Fin (8 * 32)) = ⟨i.val * 32 + e.val, by omega⟩ := Fin.ext hv
    rw [hx]
  rw [show ∑ x : Fin 256, F x * (if x.val / 32 = h.val then 1 else 0) = ∑ x : Fin (8 * 32), F x * (if x.val / 32 = h.val then 1 else 0) from rfl, ht]
  rw [Finset.sum_eq_single h]
  · refine Finset.sum_congr rfl fun e _ => ?_
    rw [if_pos (by omega), mul_one]
  · intro i _ hi
    refine Finset.sum_eq_zero fun e _ => ?_
    rw [if_neg (fun hc => hi (Fin.ext (by omega))), mul_zero]
  · intro hc
    exact absurd (Finset.mem_univ h) hc

/-- The transform of a column of 128 times at one frequency. -/
def dft (a : Fin 128 → Fin 65 → ℝ) (x : Fin 128 → ℝ) (f : Fin 65) : ℝ := ∑ t, x t * a t f

/-- The reference's correlation: each channel's inverse transform, then the mean over the channels. -/
def refCorr (a s : Fin 128 → Fin 65 → ℝ) (w : Fin 65 → ℝ) (q k : Fin 32 → Fin 128 → ℝ) (t : Fin 128) : ℝ :=
  (∑ e : Fin 32, ((∑ f : Fin 65, (dft a (q e) f * dft a (k e) f + (-dft s (q e) f) * (-dft s (k e) f)) * w f * a t f)
    - ∑ f : Fin 65, ((-dft s (q e) f) * dft a (k e) f - dft a (q e) f * (-dft s (k e) f)) * w f * s t f) / 128) / 32

/-- The kernel's correlation: the sum over the channels, then the inverse transform with the scaled tables. -/
def kerCorr (a s : Fin 128 → Fin 65 → ℝ) (w : Fin 65 → ℝ) (q k : Fin 32 → Fin 128 → ℝ) (t : Fin 128) : ℝ :=
  (∑ f : Fin 65, (∑ e : Fin 32, (dft a (q e) f * dft a (k e) f + dft s (q e) f * dft s (k e) f)) * (w f * a t f / 4096))
    + ∑ f : Fin 65, (∑ e : Fin 32, (dft a (q e) f * dft s (k e) f - dft s (q e) f * dft a (k e) f)) * (-(w f * s t f / 4096))

theorem kerCorr_eq (a s : Fin 128 → Fin 65 → ℝ) (w : Fin 65 → ℝ) (q k : Fin 32 → Fin 128 → ℝ) (t : Fin 128) :
    kerCorr a s w q k t = refCorr a s w q k t := by
  unfold kerCorr refCorr
  simp only [Finset.sum_mul]
  rw [Finset.sum_comm, Finset.sum_comm (s := (Finset.univ : Finset (Fin 65))) (f := fun f e => (dft a (q e) f * dft s (k e) f - dft s (q e) f * dft a (k e) f) * (-(w f * s t f / 4096))),
    ← Finset.sum_add_distrib, Finset.sum_div]
  refine Finset.sum_congr rfl fun e _ => ?_
  rw [← Finset.sum_add_distrib, ← Finset.sum_sub_distrib, Finset.sum_div, Finset.sum_div]
  refine Finset.sum_congr rfl fun f _ => ?_
  ring

end Cert.Algebra
-- ==== Proof.Value.Reals.lean ====
module

public import proofs.«01_k».proof.Proof.Value.Tables
public import proofs.«01_k».proof.Proof.Value.Algebra

@[expose] public section

set_option maxRecDepth 16384

noncomputable section

namespace Cert.Tables

open Idealize.ShloMosaic Cert.Algebra

/-! # The tables read as real numbers -/

theorem finite_of_scaled {w w' : BitVec 32} {d : Nat} {flip : Bool} (h : scaled w w' d flip = true) : expOf w ≠ 255 := by
  unfold scaled at h
  rw [Bool.or_eq_true] at h
  simp only [Bool.and_eq_true, beq_iff_eq, bne_iff_ne, ne_eq] at h
  rcases h with ⟨⟨⟨h1, h2⟩, h3⟩, h4⟩ | ⟨⟨⟨⟨h1, h2⟩, h3⟩, h4⟩, h5⟩
  · omega
  · exact h1

/-- The cosine, the sine and the weight as real numbers. -/
def cosT (t : Fin 128) (f : Fin 65) : ℝ := (Ideal.ofBits .f32 (wordC t f)).toReal
def sinT (t : Fin 128) (f : Fin 65) : ℝ := (Ideal.ofBits .f32 (wordS t f)).toReal
def wgt (f : Fin 65) : ℝ := if f.val = 0 ∨ f.val = 64 then 1 else 2

theorem ofBits_two : Ideal.ofBits .f32 0x40000000#32 = ((2 : ℝ) : EReal) := by
  simp [Ideal.ofBits, Ideal.ieee, -EReal.coe_mul]
  norm_num

theorem cos_word (t : Fin 128) (f : Fin 65) : Ideal.ofBits .f32 (wordC t f) = ((cosT t f : ℝ) : EReal) :=
  word_real _ (finite_of_scaled (words_CI t f).1)

theorem sin_word (t : Fin 128) (f : Fin 65) : Ideal.ofBits .f32 (wordS t f) = ((sinT t f : ℝ) : EReal) :=
  word_real _ (finite_of_scaled (words_CI t f).2)

theorem fall_div (f : Fin 65) (x : ℝ) : x / 2 ^ fall f.val = wgt f * x / 4096 := by
  unfold fall wgt
  split
  · norm_num
  · norm_num
    ring

theorem at_CS (t : Fin 128) (f : Fin 144) : Cert.KernelIdeal.Own.tabCS (ix2 t f) = Ideal.ofBits .f32 (wordCS t f) := by
  have hr : (Cert.KernelIdeal.S128x144.rowMajor (ix2 t f)).val = t.val * 144 + f.val := by rw [Shape.rowMajor_val_two]; rfl
  exact congrArg (fun i => Ideal.ofBits .f32 (Cert.KernelIdeal.lit0t i)) hr

theorem at_CI (f : Fin 144) (t : Fin 128) : Cert.KernelIdeal.Own.tabCI (ix2 f t) = Ideal.ofBits .f32 (wordCI f t) := by
  have hr : (Cert.KernelIdeal.S144x128.rowMajor (ix2 f t)).val = f.val * 128 + t.val := by rw [Shape.rowMajor_val_two]; rfl
  exact congrArg (fun i => Ideal.ofBits .f32 (Cert.KernelIdeal.lit1t i)) hr

theorem at_R (x : Fin 256) (h : Fin 128) : Cert.KernelIdeal.Own.tabR (ix2 x h) = Ideal.ofBits .f32 (wordR x h) := by
  have hr : (Cert.KernelIdeal.S256x128.rowMajor (ix2 x h)).val = x.val * 128 + h.val := by rw [Shape.rowMajor_val_two]; rfl
  exact congrArg (fun i => Ideal.ofBits .f32 (Cert.KernelIdeal.lit2t i)) hr

/-- A number below 72 is below 65 or one of the seven after. -/
theorem pad_cases {P : Fin 72 → Prop} (h1 : ∀ f : Fin 65, P ⟨f.val, by omega⟩) (h2 : ∀ g : Fin 7, P ⟨65 + g.val, by omega⟩) (g : Fin 72) : P g := by
  by_cases h : g.val < 65
  · exact h1 ⟨g.val, h⟩
  · have := h2 ⟨g.val - 65, by omega⟩
    have e : (⟨65 + (g.val - 65), by omega⟩ : Fin 72) = g := Fin.ext (by show 65 + (g.val - 65) = g.val; omega)
    rw [← e]
    exact this

theorem pad_low (a : Fin 65 → ℝ) (f : Fin 65) (h : f.val < 72) : padded a ⟨f.val, h⟩ = a f := by
  unfold padded
  rw [dif_pos f.isLt]

theorem pad_high (a : Fin 65 → ℝ) (g : Fin 7) (h : 65 + g.val < 72) : padded a ⟨65 + g.val, h⟩ = 0 := by
  unfold padded
  rw [dif_neg (by show ¬ 65 + g.val < 65; omega)]

theorem zero_word : Ideal.ofBits .f32 0#32 = ((0 : ℝ) : EReal) := Ideal.ofBits_zero_f32.trans EReal.coe_zero.symm

theorem CS_cos (t : Fin 128) (g : Fin 72) : Cert.KernelIdeal.Own.tabCS (ix2 t ⟨g.val, by omega⟩) = ((padded (cosT t) g : ℝ) : EReal) := by
  rw [at_CS]
  revert g
  refine pad_cases (fun f => ?_) (fun g => ?_)
  · rw [pad_low, ← cos_word]
    exact congrArg _ (words_CS t f).1
  · rw [pad_high, ← zero_word]
    exact congrArg _ (words_CS_pad t g).1

theorem CS_sin (t : Fin 128) (g : Fin 72) : Cert.KernelIdeal.Own.tabCS (ix2 t ⟨72 + g.val, by omega⟩) = ((padded (sinT t) g : ℝ) : EReal) := by
  rw [at_CS]
  revert g
  refine pad_cases (fun f => ?_) (fun g => ?_)
  · rw [pad_low, ← sin_word]
    exact congrArg _ (words_CS t f).2
  · rw [pad_high, ← zero_word]
    have e : (⟨72 + (65 + g.val), by omega⟩ : Fin 144) = ⟨137 + g.val, by omega⟩ := Fin.ext (by show 72 + (65 + g.val) = 137 + g.val; omega)
    rw [← (words_CS_pad t g).2]
    exact congrArg (fun i => Ideal.ofBits .f32 (wordCS t i)) e

theorem CI_cos (g : Fin 72) (t : Fin 128) :
    Cert.KernelIdeal.Own.tabCI (ix2 ⟨g.val, by omega⟩ t) = ((padded (fun f => wgt f * cosT t f / 4096) g : ℝ) : EReal) := by
  rw [at_CI]
  revert g
  refine pad_cases (fun f => ?_) (fun g => ?_)
  · rw [pad_low, ← fall_div, scaled_real _ _ _ _ (words_CI t f).1]
    simp only [Bool.false_eq_true, if_false, one_mul]
    rfl
  · rw [pad_high, ← zero_word]
    exact congrArg _ (words_CI_pad t g).1

theorem CI_sin (g : Fin 72) (t : Fin 128) :
    Cert.KernelIdeal.Own.tabCI (ix2 ⟨72 + g.val, by omega⟩ t) = ((padded (fun f => -(wgt f * sinT t f / 4096)) g : ℝ) : EReal) := by
  rw [at_CI]
  revert g
  refine pad_cases (fun f => ?_) (fun g => ?_)
  · rw [pad_low, ← fall_div, scaled_real _ _ _ _ (words_CI t f).2]
    simp only [if_true, neg_mul, one_mul, neg_div]
    rfl
  · rw [pad_high, ← zero_word]
    have e : (⟨72 + (65 + g.val), by omega⟩ : Fin 144) = ⟨137 + g.val, by omega⟩ := Fin.ext (by show 72 + (65 + g.val) = 137 + g.val; omega)
    rw [← (words_CI_pad t g).2]
    exact congrArg (fun i => Ideal.ofBits .f32 (wordCI i t)) e

theorem R_at (x : Fin 256) (h : Fin 8) : Cert.KernelIdeal.Own.tabR (ix2 x ⟨h.val, by omega⟩) = (((if x.val / 32 = h.val then 1 else 0 : ℝ)) : EReal) := by
  rw [at_R]
  have hw := words_R x h
  split at hw
  · rw [if_pos ‹_›, show wordR x ⟨h.val, by omega⟩ = 0x3F800000#32 from BitVec.eq_of_toNat_eq hw]
    exact Ideal.ofBits_one_f32.trans EReal.coe_one.symm
  · rw [if_neg ‹_›, show wordR x ⟨h.val, by omega⟩ = 0#32 from BitVec.eq_of_toNat_eq hw]
    exact zero_word

/-! ## The reference's tables -/

theorem C_at (V0 : Valuation Cert.ReferenceIdeal.τ Cert.ReferenceIdeal.sig (Elt Ideal)) (t : Fin 128) (f : Fin 65) :
    (show FVec Ideal Cert.ReferenceIdeal.S128x65 .f32 from Cert.ReferenceIdeal.Value.res_main_cst V0) (ix2 t f) = ((cosT t f : ℝ) : EReal) := by
  have hr : (Cert.ReferenceIdeal.S128x65.rowMajor (ix2 t f)).val = t.val * 65 + f.val := by rw [Shape.rowMajor_val_two]; rfl
  rw [← cos_word]
  unfold Cert.ReferenceIdeal.Value.res_main_cst
  exact congrArg (fun i => Ideal.ofBits .f32 (Cert.ReferenceIdeal.lit0t i)) hr

theorem S_at (V0 : Valuation Cert.ReferenceIdeal.τ Cert.ReferenceIdeal.sig (Elt Ideal)) (t : Fin 128) (f : Fin 65) :
    (show FVec Ideal Cert.ReferenceIdeal.S128x65 .f32 from Cert.ReferenceIdeal.Value.res_main_cst_0 V0) (ix2 t f) = ((sinT t f : ℝ) : EReal) := by
  have hr : (Cert.ReferenceIdeal.S128x65.rowMajor (ix2 t f)).val = t.val * 65 + f.val := by rw [Shape.rowMajor_val_two]; rfl
  rw [← sin_word]
  unfold Cert.ReferenceIdeal.Value.res_main_cst_0
  exact congrArg (fun i => Ideal.ofBits .f32 (Cert.ReferenceIdeal.lit1t i)) hr

theorem W_at (V0 : Valuation Cert.ReferenceIdeal.τ Cert.ReferenceIdeal.sig (Elt Ideal)) (f : Fin 65) :
    (show FVec Ideal Cert.ReferenceIdeal.S65 .f32 from Cert.ReferenceIdeal.Value.res_main_cst_1 V0) (ix1 f) = ((wgt f : ℝ) : EReal) := by
  have h : Cert.ReferenceIdeal.S65.rowMajor (ix1 f) = f := Fin.ext (by rw [Shape.rowMajor_val_one]; rfl)
  unfold Cert.ReferenceIdeal.Value.res_main_cst_1
  refine (congrArg (fun i => Ideal.ofBits .f32 (Cert.ReferenceIdeal.lit2 i)) h).trans ?_
  show Ideal.ofBits .f32 (Cert.ReferenceIdeal.lit2 f) = _
  rw [words_W]
  unfold wgt
  split
  · exact Ideal.ofBits_one_f32.trans EReal.coe_one.symm
  · exact ofBits_two

end Cert.Tables
-- ==== Proof.Value.Corr.lean ====
module

public import proofs.«01_k».proof.Proof.Value.Reals
public import Idealize.ShloMosaic.Lib.Pointwise

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.SL.Sem Idealize.ShloMosaic.StableHlo
open Cert.Tables Cert.Algebra

/-! # The reference's correlations over real queries and keys -/

variable (V0 : Valuation τ sig (Elt Ideal))

theorem ofBits_64 : Ideal.ofBits .f32 0x42800000#32 = ((64 : ℝ) : EReal) := by
  simp [Ideal.ofBits, Ideal.ieee, -EReal.coe_mul]
  norm_num
theorem ofBits_128 : Ideal.ofBits .f32 0x43000000#32 = ((128 : ℝ) : EReal) := by
  simp [Ideal.ofBits, Ideal.ieee, -EReal.coe_mul]
  norm_num
theorem ofBits_32 : Ideal.ofBits .f32 0x42000000#32 = ((32 : ℝ) : EReal) := by
  simp [Ideal.ofBits, Ideal.ieee, -EReal.coe_mul]
  norm_num

/-- A real number over a positive real number. -/
theorem div_real (x y : ℝ) (h : y ≠ 0) : Ideal.div ((x : ℝ) : EReal) ((y : ℝ) : EReal) = ((x / y : ℝ) : EReal) := by
  rw [Ideal.div_coe h, ← EReal.coe_mul, mul_one_div]

theorem mean_at (b : Fin 4) (n : Fin 64) (h : Fin 8) (e : Fin 32) (l : Fin 128) :
    (show FVec Ideal S4x64x8x32x128 .f32 from res_main_v5 V0) (ix5 b n h e l)
      = Ideal.div (∑ x : Fin 64, (V0 (Proc.devRef .tc main_arg0) : FVec Ideal S4x64x128x8x32 .f32) (ix5 b x l h e)) (Ideal.ofBits .f32 0x42800000#32) := by
  unfold res_main_v5
  generalize (V0 (Proc.devRef .tc main_arg0) : FVec Ideal S4x64x128x8x32 .f32) = q
  pointwise []

theorem keys_at (b : Fin 4) (n : Fin 64) (h : Fin 8) (e : Fin 32) (l : Fin 128) :
    (show FVec Ideal S4x64x8x32x128 .f32 from res_main_v6 V0) (ix5 b n h e l)
      = (V0 (Proc.devRef .tc main_arg1) : FVec Ideal S4x64x128x8x32 .f32) (ix5 b n l h e) := by
  unfold res_main_v6
  generalize (V0 (Proc.devRef .tc main_arg1) : FVec Ideal S4x64x128x8x32 .f32) = q
  pointwise []

theorem v7_at (b : Fin 4) (n : Fin 64) (h : Fin 8) (e : Fin 32) (f : Fin 65) :
    (show FVec Ideal S4x64x8x32x65 .f32 from res_main_v7 V0) (ix5 b n h e f)
      = ∑ t : Fin 128, (show FVec Ideal S4x64x8x32x128 .f32 from res_main_v5 V0) (ix5 b n h e t) * (show FVec Ideal S128x65 .f32 from res_main_cst V0) (ix2 t f) := by
  unfold res_main_v7
  generalize (res_main_cst V0) = S
  generalize (res_main_v5 V0) = y
  pointwise []

theorem v9_at (b : Fin 4) (n : Fin 64) (h : Fin 8) (e : Fin 32) (f : Fin 65) :
    (show FVec Ideal S4x64x8x32x65 .f32 from res_main_v9 V0) (ix5 b n h e f)
      = -∑ t : Fin 128, (show FVec Ideal S4x64x8x32x128 .f32 from res_main_v5 V0) (ix5 b n h e t) * (show FVec Ideal S128x65 .f32 from res_main_cst_0 V0) (ix2 t f) := by
  unfold res_main_v9
  generalize (res_main_cst_0 V0) = S
  generalize (res_main_v5 V0) = y
  pointwise []

theorem v10_at (b : Fin 4) (n : Fin 64) (h : Fin 8) (e : Fin 32) (f : Fin 65) :
    (show FVec Ideal S4x64x8x32x65 .f32 from res_main_v10 V0) (ix5 b n h e f)
      = ∑ t : Fin 128, (show FVec Ideal S4x64x8x32x128 .f32 from res_main_v6 V0) (ix5 b n h e t) * (show FVec Ideal S128x65 .f32 from res_main_cst V0) (ix2 t f) := by
  unfold res_main_v10
  generalize (res_main_cst V0) = S
  generalize (res_main_v6 V0) = y
  pointwise []

theorem v12_at (b : Fin 4) (n : Fin 64) (h : Fin 8) (e : Fin 32) (f : Fin 65) :
    (show FVec Ideal S4x64x8x32x65 .f32 from res_main_v12 V0) (ix5 b n h e f)
      = -∑ t : Fin 128, (show FVec Ideal S4x64x8x32x128 .f32 from res_main_v6 V0) (ix5 b n h e t) * (show FVec Ideal S128x65 .f32 from res_main_cst_0 V0) (ix2 t f) := by
  unfold res_main_v12
  generalize (res_main_cst_0 V0) = S
  generalize (res_main_v6 V0) = y
  pointwise []

/-- The spectrum's two parts give the correlation. -/
def corrFrom (y7 y9 y10 y12 : FVec Ideal S4x64x8x32x65 .f32) (C S : FVec Ideal S128x65 .f32) (W : FVec Ideal S65 .f32)
    (b : Fin 4) (n : Fin 64) (h : Fin 8) (t : Fin 128) : EReal :=
  Ideal.div (∑ x : Fin 32, Ideal.div
    ((∑ f : Fin 65, (y7 (ix5 b n h x f) * y10 (ix5 b n h x f) + y9 (ix5 b n h x f) * y12 (ix5 b n h x f)) * W (ix1 f) * C (ix2 t f))
      - ∑ f : Fin 65, (y9 (ix5 b n h x f) * y10 (ix5 b n h x f) - y7 (ix5 b n h x f) * y12 (ix5 b n h x f)) * W (ix1 f) * S (ix2 t f))
    (Ideal.ofBits .f32 0x43000000#32)) (Ideal.ofBits .f32 0x42000000#32)

theorem corr_at (b : Fin 4) (n : Fin 64) (h : Fin 8) (t : Fin 128) :
    corrOf V0 (ix4 b n h t) = corrFrom (res_main_v7 V0) (res_main_v9 V0) (res_main_v10 V0) (res_main_v12 V0) (res_main_cst V0) (res_main_cst_0 V0) (res_main_cst_1 V0) b n h t := by
  unfold corrOf res_main_v38 corrFrom
  generalize (res_main_cst V0) = C
  generalize (res_main_cst_0 V0) = S
  generalize (res_main_cst_1 V0) = W
  generalize (res_main_v7 V0) = y7
  generalize (res_main_v9 V0) = y9
  generalize (res_main_v10 V0) = y10
  generalize (res_main_v12 V0) = y12
  pointwise []

/-- Over real queries and keys the reference's correlation is `refCorr` of the mean query and the key. -/
theorem corr_real (Q K : Fin 4 → Fin 64 → Fin 128 → Fin 8 → Fin 32 → ℝ)
    (hQ : ∀ b n l h e, (V0 (Proc.devRef .tc main_arg0) : FVec Ideal S4x64x128x8x32 .f32) (ix5 b n l h e) = ((Q b n l h e : ℝ) : EReal))
    (hK : ∀ b n l h e, (V0 (Proc.devRef .tc main_arg1) : FVec Ideal S4x64x128x8x32 .f32) (ix5 b n l h e) = ((K b n l h e : ℝ) : EReal))
    (b : Fin 4) (n : Fin 64) (h : Fin 8) (t : Fin 128) :
    corrOf V0 (ix4 b n h t) = ((refCorr cosT sinT wgt (fun e l => (∑ i : Fin 64, Q b i l h e) / 64) (fun e l => K b n l h e) t : ℝ) : EReal) := by
  have h5 : ∀ e l, (show FVec Ideal S4x64x8x32x128 .f32 from res_main_v5 V0) (ix5 b n h e l) = (((∑ i : Fin 64, Q b i l h e) / 64 : ℝ) : EReal) := by
    intro e l
    rw [mean_at, ofBits_64, ← div_real _ _ (by norm_num), ← sum_real]
    exact congrArg (fun z => Ideal.div z _) (Finset.sum_congr rfl fun x _ => hQ b x l h e)
  have h6 : ∀ e l, (show FVec Ideal S4x64x8x32x128 .f32 from res_main_v6 V0) (ix5 b n h e l) = ((K b n l h e : ℝ) : EReal) := by
    intro e l
    rw [keys_at]
    exact hK b n l h e
  have h7 : ∀ e f, (show FVec Ideal S4x64x8x32x65 .f32 from res_main_v7 V0) (ix5 b n h e f) = ((dft cosT (fun l => (∑ i : Fin 64, Q b i l h e) / 64) f : ℝ) : EReal) := by
    intro e f
    rw [v7_at]
    simp only [h5, C_at, ← EReal.coe_mul, sum_real]
    rfl
  have h9 : ∀ e f, (show FVec Ideal S4x64x8x32x65 .f32 from res_main_v9 V0) (ix5 b n h e f) = ((-dft sinT (fun l => (∑ i : Fin 64, Q b i l h e) / 64) f : ℝ) : EReal) := by
    intro e f
    rw [v9_at]
    simp only [h5, S_at, ← EReal.coe_mul, sum_real, ← EReal.coe_neg]
    rfl
  have h10 : ∀ e f, (show FVec Ideal S4x64x8x32x65 .f32 from res_main_v10 V0) (ix5 b n h e f) = ((dft cosT (fun l => K b n l h e) f : ℝ) : EReal) := by
    intro e f
    rw [v10_at]
    simp only [h6, C_at, ← EReal.coe_mul, sum_real]
    rfl
  have h12 : ∀ e f, (show FVec Ideal S4x64x8x32x65 .f32 from res_main_v12 V0) (ix5 b n h e f) = ((-dft sinT (fun l => K b n l h e) f : ℝ) : EReal) := by
    intro e f
    rw [v12_at]
    simp only [h6, S_at, ← EReal.coe_mul, sum_real, ← EReal.coe_neg]
    rfl
  have hC := C_at V0
  have hS := S_at V0
  have hW := W_at V0
  rw [corr_at]
  generalize (res_main_cst V0) = C at hC ⊢
  generalize (res_main_cst_0 V0) = S at hS ⊢
  generalize (res_main_cst_1 V0) = W at hW ⊢
  generalize (res_main_v7 V0) = y7 at h7 ⊢
  generalize (res_main_v9 V0) = y9 at h9 ⊢
  generalize (res_main_v10 V0) = y10 at h10 ⊢
  generalize (res_main_v12 V0) = y12 at h12 ⊢
  unfold corrFrom
  simp only [h7, h9, h10, h12, hC, hS, hW, ← EReal.coe_mul, ← EReal.coe_add, ← EReal.coe_sub, sum_real, ofBits_128, ofBits_32,
    div_real _ (128 : ℝ) (by norm_num), div_real _ (32 : ℝ) (by norm_num)]
  rfl

end Cert.ReferenceIdeal.Own

namespace Cert.KernelIdeal.Own

open Cert.KernelIdeal Cert.KernelIdeal.Gen
open Idealize.ShloMosaic Idealize.ShloMosaic.TcCoe Idealize.SL.Sem
open Cert.Tables Cert.Algebra

/-! # The kernel's correlations over real queries and keys -/

/-- The transform over the padded frequencies. -/
def dft72 (a : Fin 128 → Fin 65 → ℝ) (x : Fin 128 → ℝ) (g : Fin 72) : ℝ := ∑ t, padded (a t) g * x t

theorem dft72_low (a : Fin 128 → Fin 65 → ℝ) (x : Fin 128 → ℝ) (f : Fin 65) (h : f.val < 72) : dft72 a x ⟨f.val, h⟩ = dft a x f := by
  unfold dft72 dft
  refine Finset.sum_congr rfl fun t _ => ?_
  rw [pad_low, mul_comm]

theorem ofBits_64th : Ideal.ofBits .f32 0x3C800000#32 = ((1 / 64 : ℝ) : EReal) := by
  simp [Ideal.ofBits, Ideal.ieee, -EReal.coe_mul]
  norm_num

theorem prodAt_low (qq : FVec Ideal S144x256 .f32) (kk : Fin 144 → EReal) (g : Fin 72) (e : Fin 256) :
    prodAt qq kk ⟨g.val, by omega⟩ e
      = qq (ix2 ⟨g.val, by omega⟩ e) * kk ⟨g.val, by omega⟩ + qq (ix2 ⟨72 + g.val, by omega⟩ e) * kk ⟨72 + g.val, by omega⟩ := by
  unfold prodAt
  rw [dif_pos g.isLt]

theorem prodAt_high (qq : FVec Ideal S144x256 .f32) (kk : Fin 144 → EReal) (g : Fin 72) (e : Fin 256) :
    prodAt qq kk ⟨72 + g.val, by omega⟩ e
      = qq (ix2 ⟨g.val, by omega⟩ e) * kk ⟨72 + g.val, by omega⟩ - qq (ix2 ⟨72 + g.val, by omega⟩ e) * kk ⟨g.val, by omega⟩ := by
  unfold prodAt
  rw [dif_neg (by show ¬ 72 + g.val < 72; omega)]
  have e1 : ∀ h, (⟨72 + g.val - 72, h⟩ : Fin 144) = ⟨g.val, by omega⟩ := fun h => Fin.ext (by show 72 + g.val - 72 = g.val; omega)
  simp only [e1]

variable (m : (ℓ : Loc nD τ sig) → Buf (Elt Ideal) ℓ)

/-- Over real queries and keys the kernel's correlation is `kerCorr` of the mean query and the key. -/
theorem corr_real (c : Dev nD) (Q K : Fin 4 → Fin 64 → Fin 128 → Fin 8 → Fin 32 → ℝ)
    (hQ : ∀ b n l h e, (show FVec Ideal S4x64x128x8x32 .f32 from m ((c : Thread nD τ).loc main_arg0)) (ix5 b n l h e) = ((Q b n l h e : ℝ) : EReal))
    (hK : ∀ b n l h e, (show FVec Ideal S4x64x128x8x32 .f32 from m ((c : Thread nD τ).loc main_arg1)) (ix5 b n l h e) = ((K b n l h e : ℝ) : EReal))
    (b : Fin 4) (n : Fin 64) (h : Fin 8) (t : Fin 128) :
    corrK m c b n ⟨h.val, by omega⟩ t
      = ((kerCorr cosT sinT wgt (fun e l => (∑ i : Fin 64, Q b i l h e) / 64) (fun e l => K b n l h e) t : ℝ) : EReal) := by
  let qx : Fin 256 → Fin 128 → ℝ := fun x l => (∑ i : Fin 64, Q b i l ⟨x.val / 32, by omega⟩ ⟨x.val % 32, by omega⟩) / 64
  let kx : Fin 256 → Fin 128 → ℝ := fun x l => K b n l ⟨x.val / 32, by omega⟩ ⟨x.val % 32, by omega⟩
  have hm : ∀ x l, querySum m c b (ix2 l x) * Ideal.ofBits .f32 0x3C800000#32 = ((qx x l : ℝ) : EReal) := by
    intro x l
    have hs : querySum m c b (ix2 l x) = ((∑ i : Fin 64, Q b i l ⟨x.val / 32, by omega⟩ ⟨x.val % 32, by omega⟩ : ℝ) : EReal) := by
      rw [← sum_real]
      exact Finset.sum_congr rfl fun i _ => (arrQ_at m c b i l x).trans (hQ b i l _ _)
    rw [hs, ofBits_64th, ← EReal.coe_mul, mul_one_div]
  have hk : ∀ x l, arrK m c (ix4 b n l x) = ((kx x l : ℝ) : EReal) := fun x l => (arrK_at m c b n l x).trans (hK b n l _ _)
  have q1 : ∀ (g : Fin 72) (x : Fin 256), qqOf tabCS (querySum m c b) (ix2 ⟨g.val, by omega⟩ x) = ((dft72 cosT (qx x) g : ℝ) : EReal) := by
    intro g x
    show ∑ r : Fin 128, tabCS (ix2 r ⟨g.val, by omega⟩) * (querySum m c b (ix2 r x) * Ideal.ofBits .f32 0x3C800000#32) = _
    simp only [hm, CS_cos, ← EReal.coe_mul, sum_real]
    rfl
  have q2 : ∀ (g : Fin 72) (x : Fin 256), qqOf tabCS (querySum m c b) (ix2 ⟨72 + g.val, by omega⟩ x) = ((dft72 sinT (qx x) g : ℝ) : EReal) := by
    intro g x
    show ∑ r : Fin 128, tabCS (ix2 r ⟨72 + g.val, by omega⟩) * (querySum m c b (ix2 r x) * Ideal.ofBits .f32 0x3C800000#32) = _
    simp only [hm, CS_sin, ← EReal.coe_mul, sum_real]
    rfl
  have k1 : ∀ (g : Fin 72) (x : Fin 256), ∑ r : Fin 128, tabCS (ix2 r ⟨g.val, by omega⟩) * arrK m c (ix4 b n r x) = ((dft72 cosT (kx x) g : ℝ) : EReal) := by
    intro g x
    simp only [hk, CS_cos, ← EReal.coe_mul, sum_real]
    rfl
  have k2 : ∀ (g : Fin 72) (x : Fin 256), ∑ r : Fin 128, tabCS (ix2 r ⟨72 + g.val, by omega⟩) * arrK m c (ix4 b n r x) = ((dft72 sinT (kx x) g : ℝ) : EReal) := by
    intro g x
    simp only [hk, CS_sin, ← EReal.coe_mul, sum_real]
    rfl
  have hh : ∀ e : Fin 32, qx ⟨h.val * 32 + e.val, by omega⟩ = (fun l => (∑ i : Fin 64, Q b i l h e) / 64)
      ∧ kx ⟨h.val * 32 + e.val, by omega⟩ = fun l => K b n l h e := by
    intro e
    have a1 : (⟨(h.val * 32 + e.val) / 32, by omega⟩ : Fin 8) = h := Fin.ext (by show (h.val * 32 + e.val) / 32 = h.val; omega)
    have a2 : (⟨(h.val * 32 + e.val) % 32, by omega⟩ : Fin 32) = e := Fin.ext (by show (h.val * 32 + e.val) % 32 = e.val; omega)
    constructor
    · funext l
      show (∑ i : Fin 64, Q b i l ⟨(h.val * 32 + e.val) / 32, _⟩ ⟨(h.val * 32 + e.val) % 32, _⟩) / 64 = _
      rw [a1, a2]
    · funext l
      show K b n l ⟨(h.val * 32 + e.val) / 32, _⟩ ⟨(h.val * 32 + e.val) % 32, _⟩ = _
      rw [a1, a2]
  have low : ∀ g : Fin 72, (∑ x : Fin 256, prodAt (qqOf tabCS (querySum m c b)) (fun g => ∑ r : Fin 128, tabCS (ix2 r g) * arrK m c (ix4 b n r x)) ⟨g.val, by omega⟩ x
        * tabR (ix2 x ⟨h.val, by omega⟩)) * tabCI (ix2 ⟨g.val, by omega⟩ t)
      = (((∑ e : Fin 32, (dft72 cosT (fun l => (∑ i : Fin 64, Q b i l h e) / 64) g * dft72 cosT (fun l => K b n l h e) g
          + dft72 sinT (fun l => (∑ i : Fin 64, Q b i l h e) / 64) g * dft72 sinT (fun l => K b n l h e) g)) * padded (fun f => wgt f * cosT t f / 4096) g : ℝ) : EReal) := by
    intro g
    simp only [prodAt_low, q1, q2, k1, k2, R_at, CI_cos, ← EReal.coe_mul, ← EReal.coe_add, sum_real]
    rw [sum_head (fun x => dft72 cosT (qx x) g * dft72 cosT (kx x) g + dft72 sinT (qx x) g * dft72 sinT (kx x) g) h]
    simp only [(hh _).1, (hh _).2]
  have high : ∀ g : Fin 72, (∑ x : Fin 256, prodAt (qqOf tabCS (querySum m c b)) (fun g => ∑ r : Fin 128, tabCS (ix2 r g) * arrK m c (ix4 b n r x)) ⟨72 + g.val, by omega⟩ x
        * tabR (ix2 x ⟨h.val, by omega⟩)) * tabCI (ix2 ⟨72 + g.val, by omega⟩ t)
      = (((∑ e : Fin 32, (dft72 cosT (fun l => (∑ i : Fin 64, Q b i l h e) / 64) g * dft72 sinT (fun l => K b n l h e) g
          - dft72 sinT (fun l => (∑ i : Fin 64, Q b i l h e) / 64) g * dft72 cosT (fun l => K b n l h e) g)) * padded (fun f => -(wgt f * sinT t f / 4096)) g : ℝ) : EReal) := by
    intro g
    simp only [prodAt_high, q1, q2, k1, k2, R_at, CI_sin, ← EReal.coe_mul, ← EReal.coe_sub, sum_real]
    rw [sum_head (fun x => dft72 cosT (qx x) g * dft72 sinT (kx x) g - dft72 sinT (qx x) g * dft72 cosT (kx x) g) h]
    simp only [(hh _).1, (hh _).2]
  unfold corrK
  rw [sum_halves]
  simp only [low, high, sum_real, ← EReal.coe_add]
  rw [sum_pad _ (fun g => by rw [pad_high, mul_zero]), sum_pad _ (fun g => by rw [pad_high, mul_zero])]
  simp only [dft72_low, pad_low]
  rfl

end Cert.KernelIdeal.Own
-- ==== Proof.Value.Final.lean ====
module

public import proofs.«01_k».proof.Defs
public import proofs.«01_k».proof.Proof.Value.Corr
public import Idealize.ShloMosaic.Lib.Pointwise

@[expose] public section

set_option maxRecDepth 16384

noncomputable section

namespace Cert.Agree

open Idealize.ShloMosaic Idealize.ShloMosaic.TcCoe Idealize.SL.Sem Idealize.ShloMosaic.StableHlo
open Cert.Tables Cert.Algebra

/-! # The kernel's result is the reference's -/

/-- The side condition of the precondition's operations. -/
theorem pre_facts : Cert.Pre_finite_queries_and_keys.Facts := ⟨by decide⟩

/-- A number whose absolute value is less than infinity is real. -/
theorem real_of_abs_lt {x : EReal} (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have hlt : max x (-x) < ⊤ := by
    by_contra hc
    simp [Ideal.cmp, hc] at h
  have h1 : x ≠ ⊤ := fun e => by rw [e] at hlt; simp at hlt
  have h2 : x ≠ ⊥ := fun e => by rw [e] at hlt; simp at hlt
  exact (EReal.coe_toReal h1 h2).symm

/-- Under the precondition every query and every key is a real number. -/
theorem real_args [Cert.Pre_finite_queries_and_keys.Facts] (q k v : FVec Ideal Cert.Pre_finite_queries_and_keys.S4x64x128x8x32 .f32) (a : IVec Cert.Pre_finite_queries_and_keys.S4x1x128x128 1)
    (h : Cert.Pre_finite_queries_and_keys.fn (F := Ideal) q k v a = fun _ => 1#1) (j : Cert.Pre_finite_queries_and_keys.S4x64x128x8x32.Idx) :
    q j = (((q j).toReal : ℝ) : EReal) ∧ k j = (((k j).toReal : ℝ) : EReal) := by
  have hj := congrFun h j
  have hj' : Ideal.cmp .olt (max (q j) (-(q j))) (Ideal.ofBits .f32 0x7F800000#32) &&& Ideal.cmp .olt (max (k j) (-(k j))) (Ideal.ofBits .f32 0x7F800000#32) = 1#1 := hj
  have split : ∀ x y : BitVec 1, x &&& y = 1#1 → x = 1#1 ∧ y = 1#1 := by decide
  exact ⟨real_of_abs_lt (split _ _ hj').1, real_of_abs_lt (split _ _ hj').2⟩

theorem logistic_nonneg (x : EReal) : 0 ≤ Ideal.logistic x := by
  induction x using EReal.rec with
  | bot => rw [Ideal.logistic_bot]
  | top => rw [Ideal.logistic_top]; exact zero_le_one
  | coe r => rw [Ideal.logistic_coe]; exact EReal.coe_nonneg.mpr (by positivity)

theorem ofBits_half : Ideal.ofBits .f32 1056964608#32 = ((1 / 2 : ℝ) : EReal) := by
  simp [Ideal.ofBits, Ideal.ieee, -EReal.coe_mul]
  norm_num

/-- A value times the mean of two sigmoids is the mean of its products with them. -/
theorem mean_products (v a b : EReal) :
    Ideal.div (v * Ideal.logistic a + v * Ideal.logistic b) (Ideal.ofBits .f32 0x40000000#32)
      = v * ((Ideal.logistic a + Ideal.logistic b) * Ideal.ofBits .f32 1056964608#32) := by
  rw [ofBits_two, ofBits_half, Ideal.div_coe (by norm_num), ← EReal.left_distrib_of_nonneg (logistic_nonneg a) (logistic_nonneg b), mul_assoc]

variable (m : (ℓ : Loc Cert.KernelIdeal.nD Cert.KernelIdeal.τ Cert.KernelIdeal.sig) → Buf (Elt Ideal) ℓ)
variable (V0 : Valuation Cert.ReferenceIdeal.τ Cert.ReferenceIdeal.sig (Elt Ideal))

/-- From the same arguments, with real queries and keys, the two results are equal at every index. -/
theorem results_at (c : Dev Cert.KernelIdeal.nD)
    (hq : (V0 (Proc.devRef .tc Cert.ReferenceIdeal.main_arg0) : FVec Ideal Cert.ReferenceIdeal.S4x64x128x8x32 .f32) = m ((c.tc : Thread Cert.KernelIdeal.nD Cert.KernelIdeal.τ).loc Cert.KernelIdeal.main_arg0))
    (hk : (V0 (Proc.devRef .tc Cert.ReferenceIdeal.main_arg1) : FVec Ideal Cert.ReferenceIdeal.S4x64x128x8x32 .f32) = m ((c.tc : Thread Cert.KernelIdeal.nD Cert.KernelIdeal.τ).loc Cert.KernelIdeal.main_arg1))
    (hv : (V0 (Proc.devRef .tc Cert.ReferenceIdeal.main_arg2) : FVec Ideal Cert.ReferenceIdeal.S4x64x128x8x32 .f32) = m ((c.tc : Thread Cert.KernelIdeal.nD Cert.KernelIdeal.τ).loc Cert.KernelIdeal.main_arg2))
    (Q K : Fin 4 → Fin 64 → Fin 128 → Fin 8 → Fin 32 → ℝ)
    (hQ : ∀ b n l h e, (show FVec Ideal Cert.KernelIdeal.S4x64x128x8x32 .f32 from m ((c.tc : Thread Cert.KernelIdeal.nD Cert.KernelIdeal.τ).loc Cert.KernelIdeal.main_arg0)) (ix5 b n l h e) = ((Q b n l h e : ℝ) : EReal))
    (hK : ∀ b n l h e, (show FVec Ideal Cert.KernelIdeal.S4x64x128x8x32 .f32 from m ((c.tc : Thread Cert.KernelIdeal.nD Cert.KernelIdeal.τ).loc Cert.KernelIdeal.main_arg1)) (ix5 b n l h e) = ((K b n l h e : ℝ) : EReal)) :
    ∀ (b : Fin 4) (n : Fin 64) (l : Fin 128) (h : Fin 8) (e : Fin 32),
      Cert.KernelIdeal.Own.kernelOut m c (ix5 b n l h e) = Cert.ReferenceIdeal.Own.refOut V0 (ix5 b n l h e) := by
  have hQ' : ∀ b n l h e, (V0 (Proc.devRef .tc Cert.ReferenceIdeal.main_arg0) : FVec Ideal Cert.ReferenceIdeal.S4x64x128x8x32 .f32) (ix5 b n l h e) = ((Q b n l h e : ℝ) : EReal) :=
    fun b n l h e => (congrFun hq (ix5 b n l h e)).trans (hQ b n l h e)
  have hK' : ∀ b n l h e, (V0 (Proc.devRef .tc Cert.ReferenceIdeal.main_arg1) : FVec Ideal Cert.ReferenceIdeal.S4x64x128x8x32 .f32) (ix5 b n l h e) = ((K b n l h e : ℝ) : EReal) :=
    fun b n l h e => (congrFun hk (ix5 b n l h e)).trans (hK b n l h e)
  intro b n l h e
  have hrow : (fun t => Cert.KernelIdeal.Own.corrK m c b n ⟨h.val, by omega⟩ t) = Cert.ReferenceIdeal.Own.row (Cert.ReferenceIdeal.Own.corrOf V0) b n h := by
    funext t
    refine (Cert.KernelIdeal.Own.corr_real m c Q K hQ hK b n h t).trans ?_
    rw [kerCorr_eq]
    exact (Cert.ReferenceIdeal.Own.corr_real V0 Q K hQ' hK' b n h t).symm
  rw [Cert.KernelIdeal.Own.kernelOut_at, hrow]
  unfold Cert.KernelIdeal.Own.scl
  rw [ValueSort.max1_eq, ValueSort.max2_eq]
  unfold Cert.ReferenceIdeal.Own.refOut
  refine Eq.trans ?_ (Cert.ReferenceIdeal.Own.meanOf_at _ _ b n l h e).symm
  rw [Cert.ReferenceIdeal.Own.branch0, Cert.ReferenceIdeal.Own.branch1]
  have hval := (Cert.ReferenceIdeal.Own.values_at V0 b n h e l).trans (congrFun hv (ix5 b n l h e))
  rw [← mean_products]
  exact (congrArg (fun v => Ideal.div (v * _ + v * _) _) hval).symm

/-- Two arrays equal at every quintuple are equal. -/
theorem ext5 {x y : FVec Ideal Cert.KernelIdeal.S4x64x128x8x32 .f32}
    (h : ∀ (b : Fin 4) (n : Fin 64) (l : Fin 128) (h : Fin 8) (e : Fin 32), x (ix5 b n l h e) = y (ix5 b n l h e)) : x = y := by
  funext j
  have hj : j = ix5 (j 0) (j 1) (j 2) (j 3) (j 4) := by idx_ext <;> rfl
  exact (congrArg x hj).trans ((h (j 0) (j 1) (j 2) (j 3) (j 4)).trans (congrArg y hj).symm)

end Cert.Agree
-- ==== Proof.lean ====
/- The proof of the certificate's claim. The frame of the kernel is Orig/Run.lean's; the frame of its
   idealization comes with what every block of the pipeline holds (Body/Run.lean); the reference's comes from its run, term by term.
   The equation of the two results is Value/Final.lean's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Body.Run
public import proofs.«01_k».proof.Proof.Orig.Run
public import proofs.«01_k».proof.Proof.Value.Final
public import Idealize.ShloMosaic.Adequacy
public import Idealize.ShloMosaic.Init

@[expose] public section

noncomputable section

namespace Cert.Proof

open Idealize.ShloMosaic Idealize.SL.Sem Cert.Kernel

/-- The reference ends with its arguments unchanged; it has no semaphore, so every counter stays at zero. -/
theorem frame_reference : Cert.quiescent_ReferenceIdeal (hReferenceIdeal := Cert.ReferenceIdeal.Gen.facts) := by
  intro m ρ _
  exact (θ_run Cert.ReferenceIdeal.defs _ _).mono (fun r h => ⟨fun c => (h c).2,
    Idealize.ShloMosaic.sem_eq_zero_of_no_sems (by decide) r.2⟩) (Cert.ReferenceIdeal.Value.run m ρ)

/-- From the same arguments, with real queries and keys, the kernel's result is the reference's. -/
theorem algebraic : Cert.algebraic_KernelIdeal_ReferenceIdeal_pre_finite_queries_and_keys (hKernelIdeal := Cert.KernelIdeal.Gen.facts)
    (hReferenceIdeal := Cert.ReferenceIdeal.Gen.facts) (hPre_finite_queries_and_keys := Cert.Agree.pre_facts) := by
  intro m ρ m' ρ' hpre hargs
  have hk := θ_run_and (Cert.KernelIdeal.Own.kernel_run m ρ) (Cert.KernelIdeal.Own.frame_all m ρ)
  refine ⟨fun c => Cert.KernelIdeal.Own.kernelOut m c, (θ_run Cert.KernelIdeal.defs _ _).mono (fun r h c => ⟨h.1 c, h.2.1 c⟩) hk,
    (θ_run Cert.ReferenceIdeal.defs _ _).mono (fun r h c => ⟨(h c).1.trans ?_, (h c).2⟩) (Cert.ReferenceIdeal.Own.ref_run m' ρ')⟩
  have hreal := @Cert.Agree.real_args Cert.Agree.pre_facts _ _ _ _ (hpre c)
  refine (Cert.Agree.ext5 (Cert.Agree.results_at m _ c (hargs c).1 (hargs c).2.1 (hargs c).2.2.1 _ _
    (fun b n l h e => (hreal (ix5 b n l h e)).1) (fun b n l h e => (hreal (ix5 b n l h e)).2))).symm

theorem claim : Cert.Claim := ⟨Cert.Kernel.Gen.facts, Cert.KernelIdeal.Gen.facts, Cert.ReferenceIdeal.Gen.facts, Cert.Agree.pre_facts,
  fun m ρ _ => Cert.Kernel.Own.frame_all m ρ, fun m ρ _ => Cert.KernelIdeal.Own.frame_all m ρ, fun m ρ _ => Cert.KernelIdeal.Own.frame_all m ρ,
  frame_reference, fun m ρ _ => frame_reference m ρ trivial, trivial, algebraic⟩

end Cert.Proof

end
